-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S16384x4096 : Shape := ⟨2, ![16384, 4096]⟩
abbrev S512x2048 : Shape := ⟨2, ![512, 2048]⟩
abbrev S512x4096 : Shape := ⟨2, ![512, 4096]⟩
abbrev S_ : Shape := ⟨0, ![]⟩
abbrev S12 : Shape := ⟨1, ![12]⟩
abbrev S1 : Shape := ⟨1, ![1]⟩

abbrev nBuf : Space → Nat
  | .hbm => 3
  | .vmem => 3
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S16384x4096, .f32⟩
  | .local _ .vmem, ⟨0, _⟩ => ⟨S2048x4096, .f32⟩
  | .local _ .vmem, ⟨1, _⟩ => ⟨S512x2048, .f32⟩
  | .local _ .vmem, ⟨2, _⟩ => ⟨S512x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_21 : BitVec 32 := 1#32
  let v38 : BitVec 32 := Scalar.muli v14 c1_i32_21
  let v39 : BitVec 32 := Scalar.addi c0_i32_22 v38
  v39.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_24 : BitVec 32 := 1#32
  let v40 : BitVec 32 := Scalar.muli v25 c1_i32_24
  let v41 : BitVec 32 := Scalar.addi c0_i32_25 v40
  v41.toNat
def k0_off1 (d0 : Dev nD) (c0_i32_37 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32_36 : BitVec 32 := 4096#32
  let v52 : BitVec 32 := Scalar.muli v2 c4096_i32_36
  let v53 : BitVec 32 := Scalar.addi v52 c0_i32_37
  let c0_i32_38 : BitVec 32 := 0#32
  ![v53.toNat, 0]
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_43 : BitVec 32 := 1#32
  let v57 : BitVec 32 := Scalar.muli v25 c1_i32_43
  let v58 : BitVec 32 := Scalar.addi c0_i32_44 v57
  v58.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_50 : BitVec 32 := 1#32
  let v66 : BitVec 32 := Scalar.muli v14 c1_i32_50
  let v67 : BitVec 32 := Scalar.addi c0_i32_51 v66
  v67.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_71 : BitVec 32 := 1#32
  let v88 : BitVec 32 := Scalar.muli v25 c1_i32_71
  let v89 : BitVec 32 := Scalar.addi c0_i32_72 v88
  v89.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_78 : BitVec 32 := 1#32
  let v97 : BitVec 32 := Scalar.muli v14 c1_i32_78
  let v98 : BitVec 32 := Scalar.addi c0_i32_79 v97
  v98.toNat
def k0_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_99 : BitVec 32 := 1#32
  let v119 : BitVec 32 := Scalar.muli v25 c1_i32_99
  let v120 : BitVec 32 := Scalar.addi c0_i32_100 v119
  v120.toNat
def k0_dev8 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_106 : BitVec 32 := 1#32
  let v128 : BitVec 32 := Scalar.muli v14 c1_i32_106
  let v129 : BitVec 32 := Scalar.addi c0_i32_107 v128
  v129.toNat
def k0_dev9 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_126 : BitVec 32 := 1#32
  let v150 : BitVec 32 := Scalar.muli v25 c1_i32_126
  let v151 : BitVec 32 := Scalar.addi c0_i32_127 v150
  v151.toNat
def k0_dev10 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_133 : BitVec 32 := 1#32
  let v159 : BitVec 32 := Scalar.muli v14 c1_i32_133
  let v160 : BitVec 32 := Scalar.addi c0_i32_134 v159
  v160.toNat
def k0_dev11 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_154 : BitVec 32 := 1#32
  let v181 : BitVec 32 := Scalar.muli v25 c1_i32_154
  let v182 : BitVec 32 := Scalar.addi c0_i32_155 v181
  v182.toNat
def k0_dev12 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_161 : BitVec 32 := 1#32
  let v190 : BitVec 32 := Scalar.muli v14 c1_i32_161
  let v191 : BitVec 32 := Scalar.addi c0_i32_162 v190
  v191.toNat
def k0_dev13 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_181 : BitVec 32 := 1#32
  let v212 : BitVec 32 := Scalar.muli v25 c1_i32_181
  let v213 : BitVec 32 := Scalar.addi c0_i32_182 v212
  v213.toNat
def k0_dev14 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_188 : BitVec 32 := 1#32
  let v221 : BitVec 32 := Scalar.muli v14 c1_i32_188
  let v222 : BitVec 32 := Scalar.addi c0_i32_189 v221
  v222.toNat
def k0_dev15 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_208 : BitVec 32 := 1#32
  let v243 : BitVec 32 := Scalar.muli v25 c1_i32_208
  let v244 : BitVec 32 := Scalar.addi c0_i32_209 v243
  v244.toNat
def k0_dev16 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_215 : BitVec 32 := 1#32
  let v252 : BitVec 32 := Scalar.muli v14 c1_i32_215
  let v253 : BitVec 32 := Scalar.addi c0_i32_216 v252
  v253.toNat
def k0_dev17 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_235 : BitVec 32 := 1#32
  let v274 : BitVec 32 := Scalar.muli v25 c1_i32_235
  let v275 : BitVec 32 := Scalar.addi c0_i32_236 v274
  v275.toNat
def k0_dev18 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_242 : BitVec 32 := 1#32
  let v283 : BitVec 32 := Scalar.muli v14 c1_i32_242
  let v284 : BitVec 32 := Scalar.addi c0_i32_243 v283
  v284.toNat
def k0_off2 (d0 : Dev nD) (c0_i32_247 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c4096_i32_246 : BitVec 32 := 4096#32
  let v291 : BitVec 32 := Scalar.muli v14 c4096_i32_246
  let v292 : BitVec 32 := Scalar.addi v291 c0_i32_247
  let c0_i32_252 : BitVec 32 := 0#32
  ![v292.toNat, 0]
def k0_dev19 (d0 : Dev nD) : Nat :=
  let c0_i32_258 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_257 : BitVec 32 := 1#32
  let v301 : BitVec 32 := Scalar.muli v25 c1_i32_257
  let v302 : BitVec 32 := Scalar.addi c0_i32_258 v301
  v302.toNat
def k0_off3 (d0 : Dev nD) (c1_i32_7 : BitVec 32) (c2048_i32_262 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c4096_i32_261 : BitVec 32 := 4096#32
  let v309 : BitVec 32 := Scalar.muli v25 c4096_i32_261
  let v310 : BitVec 32 := Scalar.addi v309 c2048_i32_262
  let c0_i32_267 : BitVec 32 := 0#32
  ![v310.toNat, 0]
def k0_dev20 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_273 : BitVec 32 := 1#32
  let v319 : BitVec 32 := Scalar.muli v14 c1_i32_273
  let v320 : BitVec 32 := Scalar.addi c0_i32_274 v319
  v320.toNat
def k0_dev21 (d0 : Dev nD) : Nat :=
  let c0_i32_289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_288 : BitVec 32 := 1#32
  let v337 : BitVec 32 := Scalar.muli v25 c1_i32_288
  let v338 : BitVec 32 := Scalar.addi c0_i32_289 v337
  v338.toNat
def k0_dev22 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_304 : BitVec 32 := 1#32
  let v355 : BitVec 32 := Scalar.muli v14 c1_i32_304
  let v356 : BitVec 32 := Scalar.addi c0_i32_305 v355
  v356.toNat
def k0_dev23 (d0 : Dev nD) : Nat :=
  let c0_i32_320 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_319 : BitVec 32 := 1#32
  let v373 : BitVec 32 := Scalar.muli v25 c1_i32_319
  let v374 : BitVec 32 := Scalar.addi c0_i32_320 v373
  v374.toNat
def k0_dev24 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_335 : BitVec 32 := 1#32
  let v391 : BitVec 32 := Scalar.muli v14 c1_i32_335
  let v392 : BitVec 32 := Scalar.addi c0_i32_336 v391
  v392.toNat
def k0_dev25 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_350 : BitVec 32 := 1#32
  let v409 : BitVec 32 := Scalar.muli v25 c1_i32_350
  let v410 : BitVec 32 := Scalar.addi c0_i32_351 v409
  v410.toNat
def k0_dev26 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_366 : BitVec 32 := 1#32
  let v427 : BitVec 32 := Scalar.muli v14 c1_i32_366
  let v428 : BitVec 32 := Scalar.addi c0_i32_367 v427
  v428.toNat
abbrev stage0_0 : Fin 1 → Memref sig .tc .vmem S2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x2048 : Shape := ⟨2, ![16384, 2048]⟩
abbrev S2048x4096 : Shape := ⟨2, ![2048, 4096]⟩
abbrev S16384x4096 : Shape := ⟨2, ![16384, 4096]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x4096, .f32⟩
  | .hbm, ⟨2, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Slots.lean ====
/-
# The ring of four devices, the transfers each device makes, and the order of the body's steps

A device of the ring sends and receives in two directions. In each direction it makes twelve remote copies: its own
eight tiles of the result, then four tiles it passes on. A `Slot` names one of these copies by its direction (`true`:
to the next device, `false`: to the previous one) and its number. This module says which tile of the result a slot
moves and in which order a device starts the copies, waits for the arrivals and waits for its own copies to complete.
-/
module

public import proofs.«01_k».proof.Proof.Gen.KernelIdeal
public import Idealize.ShloMosaic.Lib.Decide

@[expose] public section

set_option maxRecDepth 16384

namespace Cert.KernelIdeal.Gather

open Cert.KernelIdeal Cert.KernelIdeal.Gen
open Idealize.ShloMosaic

/-! ## The ring -/

set_option backward.proofsInPublic true in
/-- The neighbour of `c` in direction `d`: the next device for `true`, the previous one for `false`. -/
def peer (d : Bool) (c : Dev nD) : Dev nD := ⟨(c.val + (if d then 1 else 3)) % 4, Nat.mod_lt _ (by decide)⟩

/-- Going one way and then the other is staying. -/
theorem peer_back (d : Bool) (c : Dev nD) : peer d (peer (!d) c) = c := by revert d c; decide
theorem peer_forth (d : Bool) (c : Dev nD) : peer (!d) (peer d c) = c := by revert d c; decide

/-- Taking the neighbour in direction `d` is a bijection of the devices. -/
def turn (d : Bool) : Dev nD ≃ Dev nD := ⟨peer d, peer (!d), peer_forth d, peer_back d⟩

/-! ## Slots and tiles -/

/-- A remote copy of a device: its direction and its number. -/
abbrev Slot : Type := Bool × Fin 12

set_option backward.proofsInPublic true in
/-- Tile `t` of device `o`'s rows, among the 32 tiles of the result. -/
def tileNo (o : Dev nD) (t : Fin 8) : Fin 32 := ⟨8 * o.val + t.val, by have h : o.val < 4 := o.isLt; have := t.isLt; omega⟩

set_option backward.proofsInPublic true in
/-- The tile number, within its origin's rows, of the tile a passing-on slot moves: the first four of the previous
    device's tiles go on to the next device, the last four of the next device's tiles go on to the previous one. -/
def onward (i : Slot) : Fin 8 := ⟨(i.2.val - 8) % 4 + (if i.1 then 0 else 4), by split <;> omega⟩

set_option backward.proofsInPublic true in
/-- The number of an own-tile slot as a tile number. -/
def low (k : Fin 12) : Fin 8 := ⟨k.val % 8, Nat.mod_lt _ (by decide)⟩

/-- The tile device `c` sends in slot `i`. -/
def sentTile (c : Dev nD) (i : Slot) : Fin 32 :=
  if i.2.val < 8 then tileNo c (low i.2) else tileNo (peer (!i.1) c) (onward i)

/-- The tile that arrives at device `c` in slot `i`: the one its neighbour on the other side sends there. -/
def gotTile (c : Dev nD) (i : Slot) : Fin 32 := sentTile (peer (!i.1) c) i

set_option backward.proofsInPublic true in
/-- The slot in which the tile of a passing-on slot arrived. -/
def cameBy (i : Slot) : Slot := (i.1, ⟨(onward i).val, by have := (onward i).isLt; omega⟩)

set_option backward.proofsInPublic true in
/-- Passing-on slot `j` in direction `d`. -/
def passOn (d : Bool) (j : Fin 4) : Slot := (d, ⟨8 + j.val, by omega⟩)
set_option backward.proofsInPublic true in
/-- Own-tile slot `t` in direction `d`. -/
def ownSlot (d : Bool) (t : Fin 8) : Slot := (d, ⟨t.val, by omega⟩)

/-- A passed-on tile is the tile that came in by the slot it came by. -/
theorem gotTile_cameBy (c : Dev nD) (d : Bool) (j : Fin 4) : gotTile c (cameBy (passOn d j)) = sentTile c (passOn d j) := by
  revert c d j; decide +kernel
theorem sentTile_own (c : Dev nD) (d : Bool) (t : Fin 8) : sentTile c (ownSlot d t) = tileNo c t := by
  revert c d t; decide +kernel
theorem gotTile_peer (c : Dev nD) (i : Slot) : gotTile (peer i.1 c) i = sentTile c i := by
  unfold gotTile; rw [peer_forth]

/-! ## The order of the steps -/

/-- The place of a slot among the 24 copies a device starts, which is also its place among the waits for them. -/
def startAt (i : Slot) : ℕ := 2 * i.2.val + (if i.1 then 0 else 1)

/-- The place of a slot among the 24 arrivals a device waits for. -/
def waitAt (i : Slot) : ℕ :=
  if i.1 then (if i.2.val < 4 then 2 * i.2.val else if i.2.val < 8 then 4 * i.2.val - 8 else 4 * i.2.val - 22)
  else (if i.2.val < 4 then 9 + 4 * i.2.val else if i.2.val < 8 then 2 * i.2.val - 7 else 4 * i.2.val - 21)

theorem startAt_inj : ∀ i j : Slot, startAt i = startAt j → i = j := by decide +kernel
theorem waitAt_inj : ∀ i j : Slot, waitAt i = waitAt j → i = j := by decide +kernel
theorem startAt_lt : ∀ i : Slot, startAt i < 24 := by decide +kernel
theorem waitAt_lt : ∀ i : Slot, waitAt i < 24 := by decide +kernel

/-! ## What is outstanding at each step

`t` counts the tiles computed, `n` the remote copies started, `r` the arrivals waited for and `w` the own copies
waited for. -/

/-- The own tiles still to compute. -/
def toCompute (t : ℕ) : Finset (Fin 8) := Finset.univ.filter fun k => t ≤ k.val
/-- The copies still to start. -/
def toStart (n : ℕ) : Finset Slot := Finset.univ.filter fun i => n ≤ startAt i
/-- The copies started and not yet waited for. -/
def flying (n w : ℕ) : Finset Slot := Finset.univ.filter fun i => w ≤ startAt i ∧ startAt i < n
/-- The copies waited for. -/
def landedBy (w : ℕ) : Finset Slot := Finset.univ.filter fun i => startAt i < w
/-- The arrivals still to wait for. -/
def toArrive (r : ℕ) : Finset Slot := Finset.univ.filter fun i => r ≤ waitAt i
/-- The arrivals waited for. -/
def arrivedBy (r : ℕ) : Finset Slot := Finset.univ.filter fun i => waitAt i < r
/-- The arrivals waited for whose tiles are not passed on. -/
def kept (r : ℕ) : Finset Slot := Finset.univ.filter fun i => 8 ≤ waitAt i ∧ waitAt i < r
/-- The slots whose tile the device has at hand: its copy is back, or it is not yet started and the tile is there. -/
def atHand (t n r w : ℕ) : Finset Slot :=
  Finset.univ.filter fun i => startAt i < w ∨ (n ≤ startAt i ∧ if i.2.val < 8 then i.2.val < t else waitAt (cameBy i) < r)

theorem toCompute_step (t : Fin 8) : toCompute t.val = insert t (toCompute (t.val + 1)) ∧ t ∉ toCompute (t.val + 1) := by
  revert t; decide +kernel
theorem toStart_step (i : Slot) : toStart (startAt i) = insert i (toStart (startAt i + 1)) ∧ i ∉ toStart (startAt i + 1) := by
  revert i; decide +kernel
theorem flying_start (i : Slot) : flying (startAt i + 1) 0 = insert i (flying (startAt i) 0) ∧ i ∉ flying (startAt i) 0 := by
  revert i; decide +kernel
theorem flying_land (i : Slot) : flying 24 (startAt i) = insert i (flying 24 (startAt i + 1)) ∧ i ∉ flying 24 (startAt i + 1) := by
  revert i; decide +kernel
theorem landedBy_step (i : Slot) : landedBy (startAt i + 1) = insert i (landedBy (startAt i)) ∧ i ∉ landedBy (startAt i) := by
  revert i; decide +kernel
theorem toArrive_step (i : Slot) : toArrive (waitAt i) = insert i (toArrive (waitAt i + 1)) ∧ i ∉ toArrive (waitAt i + 1) := by
  revert i; decide +kernel
theorem arrivedBy_step (i : Slot) : arrivedBy (waitAt i + 1) = insert i (arrivedBy (waitAt i)) ∧ i ∉ arrivedBy (waitAt i) := by
  revert i; decide +kernel
theorem kept_step (i : Slot) (h : 8 ≤ waitAt i) : kept (waitAt i + 1) = insert i (kept (waitAt i)) ∧ i ∉ kept (waitAt i) := by
  revert i; decide +kernel
theorem kept_early (i : Slot) (h : waitAt i < 8) : kept (waitAt i + 1) = kept (waitAt i) := by
  revert i; decide +kernel

/-- Computing tile `t` puts it at hand for both directions. -/
theorem atHand_compute (t : Fin 8) :
    atHand (t.val + 1) (2 * t.val) 0 0 = insert (ownSlot true t) (insert (ownSlot false t) (atHand t.val (2 * t.val) 0 0))
      ∧ ownSlot true t ∉ insert (ownSlot false t) (atHand t.val (2 * t.val) 0 0) ∧ ownSlot false t ∉ atHand t.val (2 * t.val) 0 0 := by
  revert t; decide +kernel
/-- Starting the copy of a slot at hand takes it. -/
theorem atHand_start (t r : ℕ) (i : Slot) (h : if i.2.val < 8 then i.2.val < t else waitAt (cameBy i) < r) :
    atHand t (startAt i) r 0 = insert i (atHand t (startAt i + 1) r 0) ∧ i ∉ atHand t (startAt i + 1) r 0 := by
  have hinj := startAt_inj i
  constructor
  · ext j
    simp only [atHand, Finset.mem_filter, Finset.mem_univ, true_and, Finset.mem_insert, Nat.not_lt_zero, false_or]
    constructor
    · rintro ⟨hj, hr⟩
      rcases Nat.eq_or_lt_of_le hj with e | e
      · exact Or.inl (hinj j e).symm
      · exact Or.inr ⟨e, hr⟩
    · rintro (rfl | ⟨hj, hr⟩)
      · exact ⟨le_refl _, h⟩
      · exact ⟨by omega, hr⟩
  · simp only [atHand, Finset.mem_filter, Finset.mem_univ, true_and, Nat.not_lt_zero, false_or]
    rintro ⟨hj, -⟩; omega
/-- An arrival to be passed on puts its tile at hand; -/
theorem atHand_arrive (d : Bool) (j : Fin 4) :
    atHand 8 (startAt (passOn d j)) (waitAt (cameBy (passOn d j)) + 1) 0
        = insert (passOn d j) (atHand 8 (startAt (passOn d j)) (waitAt (cameBy (passOn d j))) 0)
      ∧ passOn d j ∉ atHand 8 (startAt (passOn d j)) (waitAt (cameBy (passOn d j))) 0 := by
  revert d j; decide +kernel
/-- a later one does not. -/
theorem atHand_keep (r : ℕ) : atHand 8 24 (r + 1) 0 = atHand 8 24 r 0 := by
  ext j
  have := startAt_lt j
  simp only [atHand, Finset.mem_filter, Finset.mem_univ, true_and, Nat.not_lt_zero, false_or]
  constructor <;> (rintro ⟨h, -⟩; omega)
/-- A copy waited for puts its tile back at hand. -/
theorem atHand_land (i : Slot) : atHand 8 24 24 (startAt i + 1) = insert i (atHand 8 24 24 (startAt i)) ∧ i ∉ atHand 8 24 24 (startAt i) := by
  revert i; decide +kernel

/-! ## The beginning and the end -/

theorem toCompute_zero : toCompute 0 = Finset.univ := by decide +kernel
theorem toCompute_eight : toCompute 8 = ∅ := by decide +kernel
theorem toStart_zero : toStart 0 = Finset.univ := by decide +kernel
theorem toStart_all : toStart 24 = ∅ := by decide +kernel
theorem flying_zero : flying 0 0 = ∅ := by decide +kernel
theorem flying_all : flying 24 24 = ∅ := by decide +kernel
theorem landedBy_zero : landedBy 0 = ∅ := by decide +kernel
theorem landedBy_all : landedBy 24 = Finset.univ := by decide +kernel
theorem toArrive_zero : toArrive 0 = Finset.univ := by decide +kernel
theorem toArrive_all : toArrive 24 = ∅ := by decide +kernel
theorem arrivedBy_zero : arrivedBy 0 = ∅ := by decide +kernel
theorem arrivedBy_all : arrivedBy 24 = Finset.univ := by decide +kernel
theorem kept_zero : kept 0 = ∅ := by decide +kernel
theorem atHand_zero : atHand 0 0 0 0 = ∅ := by decide +kernel
theorem atHand_all : atHand 8 24 24 24 = Finset.univ := by decide +kernel

/-! ## Which tiles a device's slots bring it -/

/-- A device's own tiles and the 24 that arrive are all 32 tiles of the result, each once. -/
def allTiles (c : Dev nD) : Fin 8 ⊕ Slot → Fin 32 := Sum.elim (tileNo c) (gotTile c)

theorem allTiles_bij (c : Dev nD) : Function.Bijective (allTiles c) := by
  rw [Fintype.bijective_iff_injective_and_card]
  exact ⟨by revert c; decide +kernel, by decide⟩

end Cert.KernelIdeal.Gather
-- ==== Proof.KernelIdeal.Tiles.lean ====
/-
# The tiles of the result and what they hold

The result is 16384 rows, 32 tiles of 512 rows each. Tile `q` holds the product of 512 rows of the block of `A` its
origin device has with `B`, as the kernel's payload computes it. `gathered` is the whole result: the same array on every
device. The module shows the tiles are disjoint and cover the result, and that reading a tile of `gathered` and writing
it anywhere else at the same tile gives `gathered` there again.
-/
module

public import proofs.«01_k».proof.Proof.KernelIdeal.Slots
public import proofs.«01_k».proof.Proof.Gen.KernelIdeal.Skeleton
public import proofs.«01_k».proof.Proof.Gen.KernelIdeal.Launch
public import Idealize.ShloMosaic.Lib.Pipeline.ValueKit.Geometry

@[expose] public section

set_option maxRecDepth 16384

noncomputable section

namespace Cert.KernelIdeal.Gather

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-! ## Where a tile lies -/

/-- The result's memory reference. -/
abbrev outM : Memref sig .tc .hbm S16384x4096 .f32 := Memref.whole main_v1

/-- Tile `q`: rows `512 q` to `512 q + 511`, every column. -/
abbrev tileRect (q : Fin 32) : Rect S16384x4096 :=
  Rect.unit (s := S16384x4096) ![512 * q.val, 0] S512x4096.size (by
    have := q.isLt
    refine Fin.forall_fin_two.mpr ⟨?_, ?_⟩
    · show 512 * q.val + 512 ≤ 16384; omega
    · show 0 + 4096 ≤ 4096; omega)

/-- Tile `q` of the result, as a memory reference. -/
abbrev tileM (q : Fin 32) : Memref sig .tc .hbm S512x4096 .f32 := outM.slice (tileRect q) (fun _ => rfl)

/-- The rows of `A` a device's tile `t` is computed from: rows `512 t` to `512 t + 511` of its block. -/
abbrev rowsRect (t : Fin 8) : Rect S4096x2048 :=
  Rect.unit (s := S4096x2048) ![512 * t.val, 0] S512x2048.size (by
    have := t.isLt
    refine Fin.forall_fin_two.mpr ⟨?_, ?_⟩
    · show 512 * t.val + 512 ≤ 4096; omega
    · show 0 + 2048 ≤ 2048; omega)

/-- Those rows, as a memory reference. -/
abbrev rowsM (t : Fin 8) : Memref sig .tc .hbm S512x2048 .f32 := (Memref.whole main_arg0).slice (rowsRect t) (fun _ => rfl)

/-- The element indices of tile `q`. -/
def tileSet (q : Fin 32) : Finset (main_v1 : Ref sig .tc).ty.Idx := (tileM q).view.set

/-- The tile an element of the result lies in. -/
def tileOf (i : (main_v1 : Ref sig .tc).ty.Idx) : Fin 32 :=
  ⟨(i (0 : Fin 2)).val / 512, by have h : (i (0 : Fin 2)).val < 16384 := (i (0 : Fin 2)).isLt; omega⟩

theorem mem_tileSet (q : Fin 32) (i : (main_v1 : Ref sig .tc).ty.Idx) : i ∈ tileSet q ↔ tileOf i = q := by
  unfold tileSet
  refine ValueKit.mem_set_slice_whole_iff main_v1 (tileRect q) i ?_
  rw [LoadRect.mem_set]
  have h0 : (i (0 : Fin 2)).val < 16384 := (i (0 : Fin 2)).isLt
  have h1 : (i (1 : Fin 2)).val < 4096 := (i (1 : Fin 2)).isLt
  constructor
  · intro h
    obtain ⟨j, hj, he⟩ := h (0 : Fin 2)
    have hj' : j < 512 := hj
    have he' : (i (0 : Fin 2)).val = 512 * q.val + 1 * j := he
    exact Fin.ext (by show (i (0 : Fin 2)).val / 512 = q.val; omega)
  · intro h
    have hq : (i (0 : Fin 2)).val / 512 = q.val := congrArg Fin.val h
    refine Fin.forall_fin_two.mpr ⟨⟨(i (0 : Fin 2)).val % 512, Nat.mod_lt _ (by decide), ?_⟩, ⟨(i (1 : Fin 2)).val, h1, ?_⟩⟩
    · show (i (0 : Fin 2)).val = 512 * q.val + 1 * ((i (0 : Fin 2)).val % 512); omega
    · show (i (1 : Fin 2)).val = 0 + 1 * (i (1 : Fin 2)).val; omega

/-- Different tiles share no element; -/
theorem tileSet_disjoint (q q' : Fin 32) (h : q ≠ q') : Disjoint (tileSet q) (tileSet q') :=
  Finset.disjoint_left.mpr fun i hi hi' => h (((mem_tileSet q i).mp hi).symm.trans ((mem_tileSet q' i).mp hi'))
/-- and every element is in one. -/
theorem tileSet_cover : Finset.univ.biUnion tileSet = Finset.univ :=
  Finset.eq_univ_iff_forall.mpr fun i => Finset.mem_biUnion.mpr ⟨tileOf i, Finset.mem_univ _, (mem_tileSet _ i).mpr rfl⟩

/-! ## What the result holds -/

set_option backward.proofsInPublic true in
/-- The device a tile comes from, -/
def origin (q : Fin 32) : Dev nD := ⟨q.val / 8, by have := q.isLt; show q.val / 8 < 4; omega⟩
set_option backward.proofsInPublic true in
/-- and its number among that device's tiles. -/
def part (q : Fin 32) : Fin 8 := ⟨q.val % 8, Nat.mod_lt _ (by decide)⟩

theorem origin_tileNo (o : Dev nD) (t : Fin 8) : origin (tileNo o t) = o := by revert o t; decide +kernel
theorem part_tileNo (o : Dev nD) (t : Fin 8) : part (tileNo o t) = t := by revert o t; decide +kernel

/-- Device `o`'s rows of `A` for its tile `t`. -/
def rowsOf (o : Dev nD) (t : Fin 8) : Vec F S512x2048 .f32 := (rowsM t).view.read (Elt F) (m ((o : Thread nD τ).loc main_arg0))
/-- Device `o`'s copy of `B`, as staged. -/
def factor (o : Dev nD) : (cc0_stg0_0 : Ref sig .tc).ty.Contents (Elt F) :=
  (win0_0.blk t0_0).view.read (Elt F) (m ((o : Thread nD τ).loc main_arg1))

/-- What tile `q` holds: the kernel's payload on its origin's rows and copy of `B`. -/
def tileVal (q : Fin 32) : FVec F S512x4096 .f32 := k0_pay1 (rowsOf m (origin q) (part q)) (factor m (origin q))

/-- The whole result: each tile's elements hold that tile's values. -/
def gathered : (main_v1 : Ref sig .tc).ty.Contents (Elt F) := fun i =>
  (tileM (tileOf i)).view.write (Elt F) (m (((0 : Dev nD) : Thread nD τ).loc main_v1)) (tileVal m (tileOf i)) Finset.univ i

omit [FloatOps F] in
/-- Where a view writes everything, what was there before does not matter. -/
theorem write_over {sp : Space} {s : Shape} {e : EltTy} (v : View sig .tc sp s e) (f g : v.ty.Contents (Elt F)) (w : s.Idx → Elt F e)
    (i : v.ty.Idx) (hi : i ∈ v.set) : v.write (Elt F) f w Finset.univ i = v.write (Elt F) g w Finset.univ i := by
  obtain ⟨x, -, rfl⟩ := Finset.mem_map.mp hi
  rw [View.write_emb_of_mem _ _ (Finset.mem_univ x), View.write_emb_of_mem _ _ (Finset.mem_univ x)]

/-- A tile's values written at the tile are the result there; -/
theorem gathered_of_write (q : Fin 32) (f : (main_v1 : Ref sig .tc).ty.Contents (Elt F)) (i : (main_v1 : Ref sig .tc).ty.Idx)
    (hi : i ∈ tileSet q) : (tileM q).view.write (Elt F) f (tileVal m q) Finset.univ i = gathered m i := by
  have hq := (mem_tileSet q i).mp hi
  unfold gathered
  rw [hq]
  exact write_over (tileM q).view _ _ _ i hi

/-- so a tile of the result reads as its values, -/
theorem read_gathered (q : Fin 32) : (tileM q).view.read (Elt F) (gathered m) = tileVal m q := by
  rw [← View.read_write_univ (v := (tileM q).view) (gathered m) (tileVal m q)]
  exact View.read_congr fun i hi => (gathered_of_write m q (gathered m) i hi).symm

/-- and a tile of the result, copied to the same tile elsewhere, is the result there too. -/
theorem gathered_of_copy (q : Fin 32) (f : (main_v1 : Ref sig .tc).ty.Contents (Elt F)) (i : (main_v1 : Ref sig .tc).ty.Idx)
    (hi : i ∈ tileSet q) :
    (tileM q).view.write (Elt F) f ((tileM q).view.read (Elt F) (gathered m)) Finset.univ i = gathered m i := by
  rw [read_gathered]; exact gathered_of_write m q f i hi

end Cert.KernelIdeal.Gather
-- ==== Proof.KernelIdeal.Protocol.lean ====
/-
# The protocol of the semaphores

Each device has 49 semaphores that take part: the barrier, and for each of the 24 slots a send and a receive semaphore.
Each goes through one round. The barrier's round has two duties, one per direction: the neighbour in direction `d` pays
duty `d` by its signal and hands over the tiles of its own result buffer that this device will write there. A receive
semaphore's duty is paid by the copy that arrives, with the tile now holding the result; a send semaphore's duty is paid
when the copy is complete, with the share of the source tile the copy took.
-/
module

public import proofs.«01_k».proof.Proof.KernelIdeal.Tiles
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the staging's rounds, the ring's rounds, and counters for the local copies -/

abbrev RingU : Type := URounds (GSem nD τ sig) Bool
abbrev UU : Type := UR sig nD τ × (RingU × Counters)

local notation "𝕄" => MT nD τ sig Unit (Elt F) ℕ UU ℕ

abbrev EP : Emb (UR sig nD τ) (MT nD τ sig Unit (Elt F) ℕ UU ℕ) := embL
abbrev ER : Emb RingU (MT nD τ sig Unit (Elt F) ℕ UU ℕ) := (Emb.inl : Emb RingU (RingU × Counters)).trans embR
abbrev EC : UEmb Counters (MT nD τ sig Unit (Elt F) ℕ UU ℕ) := countersEmb

variable (m : (ℓ : Loc nD τ sig) → Buf (Elt F) ℓ) (ρ : Dev nD → PrngReg)

/-! ## The semaphores -/

/-- A participating semaphore: the barrier, or the send (`false`) or receive (`true`) semaphore of a slot. -/
abbrev Port : Type := Option (Bool × Slot)

/-- The barrier semaphore. -/
abbrev barS : Sem sig := (SemArray.scalar (sig.barrier 0 rfl) : Sems sig S_).sem
/-- The semaphore of the copies within a device. -/
abbrev localS : DmaSem sig := (cc0_scratch2 : DmaSems sig S_).sem

set_option backward.proofsInPublic true in
/-- The send (`false`) or receive (`true`) semaphore of slot `i`. -/
def dmaS (rcv : Bool) (i : Slot) : DmaSem sig :=
  ⟨2 + (if i.1 then 0 else 24) + (if rcv then 12 else 0) + i.2.val, by
    have := i.2.isLt; show _ < 50; split <;> split <;> omega⟩

set_option backward.proofsInPublic true in
/-- Which send or receive semaphore a DMA semaphore is. -/
def portOf (q : DmaSem sig) : Bool × Slot :=
  (decide ((q.val - 2) / 12 % 2 = 1), decide ((q.val - 2) / 24 = 0), ⟨(q.val - 2) % 12, Nat.mod_lt _ (by decide)⟩)

theorem portOf_dmaS (rcv : Bool) (i : Slot) : portOf (dmaS rcv i) = (rcv, i) := by revert rcv i; decide +kernel
theorem dmaS_ge (rcv : Bool) (i : Slot) : 2 ≤ (dmaS rcv i).val := by revert rcv i; decide +kernel

abbrev portSem : Port → SemLoc sig
  | none => .reg barS
  | some p => .dma (dmaS p.1 p.2)

theorem portSem_inj : ∀ p p' : Port, portSem p = portSem p' → p = p' := by decide +kernel

abbrev barCell (c : Dev nD) : GSem nD τ sig := ((c : Thread nD τ), .reg barS)
abbrev sendCell (c : Dev nD) (i : Slot) : GSem nD τ sig := ((c : Thread nD τ), .dma (dmaS false i))
abbrev recvCell (c : Dev nD) (i : Slot) : GSem nD τ sig := ((c : Thread nD τ), .dma (dmaS true i))
abbrev localCell (c : Dev nD) : GSem nD τ sig := ((c : Thread nD τ), .dma localS)
abbrev portCell (cp : Dev nD × Port) : GSem nD τ sig := ((cp.1 : Thread nD τ), portSem cp.2)

theorem portCell_inj : Function.Injective portCell := by
  rintro ⟨c, p⟩ ⟨c', p'⟩ h
  have hc : c = c' := congrArg (fun g : GSem nD τ sig => g.1.1) h
  subst hc
  exact congrArg (Prod.mk c) (portSem_inj p p' (congrArg Prod.snd h))

/-- What a tile's transfer pays. -/
@[irreducible] def credN : ℕ := (tileM 0).view.dmaCredit
theorem credN_pos : 0 < credN := by unfold credN; exact View.dmaCredit_pos _ (by decide)
theorem credN_tile (k : Fin 32) : (tileM k).view.dmaCredit = credN := by unfold credN; rfl

/-! ## The payloads -/

/-- Share `q` of tile `k` of device `c`'s result buffer, at contents `f`. -/
def tileAt (c : Dev nD) (k : Fin 32) (q : PosShare TreeShare) (f : (main_v1 : Ref sig .tc).ty.Contents (Elt F)) : sProp 𝕄 :=
  (((c : Thread nD τ).loc main_v1) ↦[tileSet k]{q} f)

omit [FloatOps F] in
instance tileAt_storable (c : Dev nD) (k : Fin 32) (q : PosShare TreeShare) (f) : BI.Storable (upEmb : UEmb _ 𝕄) (tileAt (F := F) c k q f) := by
  unfold tileAt; infer_instance

/-- The share of the source tile a slot's copy takes: half for an own tile, which goes both ways, and all of it for a
    tile passed on. -/
def shareOf (i : Slot) : PosShare TreeShare :=
  if i.2.val < 8 then (if i.1 then fullShare.left else fullShare.right) else fullShare

/-- What a slot's copy at `c` reads from, and what its send semaphore gives back. -/
def sentPay (c : Dev nD) (i : Slot) : sProp 𝕄 := tileAt c (sentTile c i) (shareOf i) (gathered m)
/-- What arrives at `c` in slot `i`. -/
def gotPay (c : Dev nD) (i : Slot) : sProp 𝕄 := tileAt c (gotTile c i) fullShare (gathered m)
/-- The tile of the neighbour's buffer a slot's copy writes, at whatever it holds. -/
def room (c : Dev nD) (i : Slot) : sProp 𝕄 := iprop(∃ f, tileAt (F := F) (peer i.1 c) (sentTile c i) fullShare f)
/-- What the signal of `c`'s neighbour in direction `d` hands `c`: the room for all its copies that way. -/
def barPay (c : Dev nD) (d : Bool) : sProp 𝕄 := bigSep Finset.univ fun k : Fin 12 => room (F := F) c (d, k)

instance sentPay_storable (c : Dev nD) (i : Slot) : BI.Storable (upEmb : UEmb _ 𝕄) (sentPay m c i) := by unfold sentPay; infer_instance
instance gotPay_storable (c : Dev nD) (i : Slot) : BI.Storable (upEmb : UEmb _ 𝕄) (gotPay m c i) := by unfold gotPay; infer_instance
omit [FloatOps F] in
instance room_storable (c : Dev nD) (i : Slot) : BI.Storable (upEmb : UEmb _ 𝕄) (room (F := F) c i) := by unfold room; infer_instance
omit [FloatOps F] in
instance barPay_storable (c : Dev nD) (d : Bool) : BI.Storable (upEmb : UEmb _ 𝕄) (barPay (F := F) c d) := by unfold barPay; infer_instance

/-- What a semaphore's duty `d` hands over. -/
def portPay (c : Dev nD) (d : Bool) : SemLoc sig → sProp 𝕄
  | .reg _ => barPay c d
  | .dma q => if (portOf q).1 then gotPay m c (portOf q).2 else sentPay m c (portOf q).2

/-- The schedule: one round; two duties of one unit on a barrier, one duty of a tile's credit on a DMA semaphore. -/
def plan : Rounds.Schedule (GSem nD τ sig) Bool 𝕄 where
  duties g r := if r = 0 then (match g.2 with | .reg _ => Finset.univ | .dma _ => {false}) else ∅
  unitless _ := False
  amount g _ _ := match g.2 with | .reg _ => 1 | .dma _ => credN
  payload g _ d := portPay m g.1.1 d g.2
  amount_pos g _ _ _ := by
    cases g.2 with
    | reg _ => exact Nat.one_pos
    | dma _ => exact credN_pos

instance plan_storable (g : GSem nD τ sig) (r : ℕ) (d : Bool) : BI.Storable (upEmb : UEmb _ 𝕄) ((plan (F := F) m).payload g r d) := by
  show BI.Storable upEmb (portPay m g.1.1 d g.2)
  unfold portPay
  cases g.2 with
  | reg _ => infer_instance
  | dma q => dsimp only; split <;> infer_instance

section Plan
variable (c : Dev nD) (i : Slot)

theorem duties_bar : (plan (F := F) m).duties (barCell c) 0 = Finset.univ := rfl
theorem duties_dma (q : DmaSem sig) : (plan (F := F) m).duties ((c : Thread nD τ), .dma q) 0 = {false} := rfl
theorem duties_over (g : GSem nD τ sig) : ∀ r, 1 ≤ r → (plan (F := F) m).duties g r = ∅ :=
  fun r hr => if_neg (by omega)
theorem amount_bar (d : Bool) : (plan (F := F) m).amount (barCell c) 0 d = 1 := rfl
theorem amount_dma (q : DmaSem sig) (d : Bool) : (plan (F := F) m).amount ((c : Thread nD τ), .dma q) 0 d = credN := rfl
theorem expect_bar : (plan (F := F) m).expect (barCell c) 0 = 2 := by
  rw [Schedule.expect, Schedule.amountOf, duties_bar, Finset.sum_congr rfl fun d _ => amount_bar m c d, Finset.sum_const, Finset.card_univ, Fintype.card_bool, smul_eq_mul]
theorem expect_dma (q : DmaSem sig) : (plan (F := F) m).expect ((c : Thread nD τ), .dma q) 0 = credN := by
  rw [Schedule.expect, duties_dma, Schedule.amountOf, Finset.sum_singleton, amount_dma]
theorem payload_bar (d : Bool) : (plan (F := F) m).payload (barCell c) 0 d = barPay c d := rfl
theorem payload_send (d : Bool) : (plan (F := F) m).payload (sendCell c i) 0 d = sentPay m c i := by
  show portPay m c d (.dma (dmaS false i)) = _
  unfold portPay; dsimp only; rw [portOf_dmaS]; exact if_neg Bool.false_ne_true
theorem payload_recv (d : Bool) : (plan (F := F) m).payload (recvCell c i) 0 d = gotPay m c i := by
  show portPay m c d (.dma (dmaS true i)) = _
  unfold portPay; dsimp only; rw [portOf_dmaS]; exact if_pos rfl

/-- Everything a barrier's round hands over: the room for every copy. -/
theorem rest_bar : bigSep ((plan (F := F) m).duties (barCell c) 0 \ ∅) (fun d => (plan (F := F) m).payload (barCell c) 0 d)
    = bigSep Finset.univ fun i : Slot => room (F := F) c i := by
  rw [Finset.sdiff_empty, duties_bar, bigSep_univ_prod]; rfl
theorem rest_send : bigSep ((plan (F := F) m).duties (sendCell c i) 0 \ ∅) (fun d => (plan (F := F) m).payload (sendCell c i) 0 d) = sentPay m c i := by
  rw [Finset.sdiff_empty, show (plan (F := F) m).duties (sendCell c i) 0 = {false} from duties_dma m c _, bigSep_singleton, payload_send]
theorem rest_recv : bigSep ((plan (F := F) m).duties (recvCell c i) 0 \ ∅) (fun d => (plan (F := F) m).payload (recvCell c i) 0 d) = gotPay m c i := by
  rw [Finset.sdiff_empty, show (plan (F := F) m).duties (recvCell c i) 0 = {false} from duties_dma m c _, bigSep_singleton, payload_recv]

end Plan

/-! ## What a device owes, and the levels of the semaphores -/

/-- The arrivals device `c` still owes its neighbours when it has started `n` copies. -/
def owed (c : Dev nD) (n : ℕ) : CellTallies nD τ sig Unit := ∑ i ∈ toStart n, tallyAt (recvCell (peer i.1 c) i) () credN

/-- Starting the copy of slot `i` pays its arrival. -/
theorem owed_step (c : Dev nD) (i : Slot) : owed c (startAt i) = owed c (startAt i + 1) + tallyAt (recvCell (peer i.1 c) i) () credN := by
  unfold owed
  rw [(toStart_step i).1, Finset.sum_insert (toStart_step i).2, add_comm]

theorem owed_all (c : Dev nD) : owed c 24 = 0 := by unfold owed; rw [toStart_all, Finset.sum_empty]

/-- After the first signal the previous device's barrier is paid, -/
def owedBar₁ (c : Dev nD) : CellTallies nD τ sig Unit := owed c 0 + tallyAt (barCell (peer true c)) () 1
/-- and at the start both neighbours' barriers and every arrival are owed. -/
def owedBar₀ (c : Dev nD) : CellTallies nD τ sig Unit := owedBar₁ c + tallyAt (barCell (peer false c)) () 1

def lvls (g : GSem nD τ sig) : Finset Unit := if g.1.2 = .tc then {()} else ∅
theorem lvls_tc (c : Dev nD) (sm : SemLoc sig) : lvls ((c : Thread nD τ), sm) = {()} := if_pos rfl
theorem lvls_other (g : GSem nD τ sig) (h : g.1.2 ≠ .tc) : lvls g = ∅ := if_neg h

/-- The level of a semaphore: the copies within a device and the send semaphores lowest, then the barrier, then the
    arrivals of the neighbours' own tiles, then those of the tiles passed on. -/
def semLevel : SemLoc sig → ℕ
  | .reg _ => 1
  | .dma q => if 2 ≤ q.val ∧ (portOf q).1 then (if (portOf q).2.2.val < 8 then 2 else 3) else 0
def level (g : GSem nD τ sig) (_ : Unit) : ℕ := semLevel g.2

theorem level_recv (c : Dev nD) (i : Slot) : level (recvCell c i) () = if i.2.val < 8 then 2 else 3 := by
  show semLevel (.dma (dmaS true i)) = _
  unfold semLevel; dsimp only
  rw [portOf_dmaS, if_pos ⟨dmaS_ge true i, rfl⟩]
theorem level_send (c : Dev nD) (i : Slot) : level (sendCell c i) () = 0 := by
  show semLevel (.dma (dmaS false i)) = _
  unfold semLevel; dsimp only
  rw [portOf_dmaS, if_neg (fun h => Bool.false_ne_true h.2)]
theorem level_local (c : Dev nD) : level (localCell c) () = 0 := by
  show semLevel (.dma localS) = 0
  decide

theorem owed_pos {c : Dev nD} {n : ℕ} {g : GSem nD τ sig} {u : Unit} (h : 0 < owed c n g u) :
    ∃ i ∈ toStart n, g = recvCell (peer i.1 c) i := by
  by_contra hn
  push Not at hn
  have h0 : owed c n g u = 0 := by
    unfold owed
    rw [Finset.sum_apply, Finsupp.finset_sum_apply]
    refine Finset.sum_eq_zero fun i hi => ?_
    rw [tallyAt_apply, if_neg fun h' => hn i hi h'.1]
  omega

omit [FloatOps F] in
/-- A device may wait on a semaphore of level `a` while it owes only arrivals of higher levels. -/
theorem mayWait_owed (c : Dev nD) (sm : SemLoc sig) (n a : ℕ) (ha : semLevel sm ≤ a)
    (hn : ∀ i ∈ toStart n, a < if i.2.val < 8 then 2 else 3) :
    (levAts lvls level : sProp 𝕄) ⊢ MayWait (c : Thread nD τ) sm () (owed c n) :=
  MayOwe.of_cut (L := lvls) (lev := level) a
    (fun p hp => by rw [Finset.mem_singleton.mp hp, lvls_tc]; exact Finset.mem_singleton_self _)
    (fun g u hg => by obtain ⟨i, -, rfl⟩ := owed_pos hg; rw [lvls_tc]; exact Finset.mem_singleton_self _)
    (fun p hp => by rw [Finset.mem_singleton.mp hp]; exact ha)
    (fun g u hg => by obtain ⟨i, hi, rfl⟩ := owed_pos hg; rw [level_recv]; exact hn i hi)

theorem low_levels (n : ℕ) : ∀ i ∈ toStart n, 1 < if i.2.val < 8 then 2 else 3 := fun i _ => by split <;> decide
theorem passOn_levels {n : ℕ} (h : 16 ≤ n) : ∀ i ∈ toStart n, 2 < if i.2.val < 8 then 2 else 3 := fun i hi => by
  have := (Finset.mem_filter.mp hi).2
  unfold startAt at this
  rw [if_neg (by split at this <;> omega)]; decide
theorem no_levels {n : ℕ} (h : 24 ≤ n) (a : ℕ) : ∀ i ∈ toStart n, a < if i.2.val < 8 then 2 else 3 := fun i hi => by
  have := (Finset.mem_filter.mp hi).2
  have := startAt_lt i
  omega

end Cert.KernelIdeal.Gather
-- ==== Proof.KernelIdeal.Steps.lean ====
/-
# What a device holds between two steps of its body, and what each step does to it

`St m K c t n r w` is what device `c` holds when it has computed `t` tiles, started `n` remote copies, waited for `r`
arrivals and waited for `w` of its own copies to complete. Each rule below takes one step of the body from one such state
to the next: starting a remote copy, waiting for an arrival, waiting for an own copy, computing a tile.
-/
module

public import proofs.«01_k».proof.Proof.KernelIdeal.Protocol

@[expose] public section

set_option maxRecDepth 16384

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Port → ℕ) (c : Dev nD)

abbrev 𝒱₀ : Variants := Variants.none

/-! ## The state -/

/-- The invariants of all participating semaphores, at the names `K`, and that each is at its only round. -/
def recs : sProp 𝕄 :=
  iprop((bigSep Finset.univ fun cp : Dev nD × Port => cellInv ER (plan m) (K cp) (portCell cp))
    ∗ bigSep Finset.univ fun cp : Dev nD × Port => reached ER (portCell cp) 0)

instance recs_persistent : BI.Persistent (recs m K) := by unfold recs; infer_instance

theorem recs_inv (cp : Dev nD × Port) : recs m K ⊢ cellInv ER (plan m) (K cp) (portCell cp) := by
  unfold recs
  iintro ⟨H, -⟩
  iapply (show (bigSep Finset.univ fun cp : Dev nD × Port => (cellInv ER (plan m) (K cp) (portCell cp) : sProp 𝕄))
    ⊢ cellInv ER (plan m) (K cp) (portCell cp) from bigSep_elim (Finset.mem_univ cp))
  iexact H
theorem recs_reached (cp : Dev nD × Port) : recs m K ⊢ reached ER (portCell cp) 0 := by
  unfold recs
  iintro ⟨-, H⟩
  iapply (show (bigSep Finset.univ fun cp : Dev nD × Port => (reached ER (portCell cp) 0 : sProp 𝕄)) ⊢ reached ER (portCell cp) 0
    from bigSep_elim (Finset.mem_univ cp))
  iexact H

/-- What computing a tile uses: the device's rows of `A`, its staged copy of `B`, the two buffers, and the semaphore of
    the copies within the device. -/
def work : sProp 𝕄 :=
  iprop((((c : Thread nD τ).loc main_arg0) ↦{fullShare} m ((c : Thread nD τ).loc main_arg0))
    ∗ (((c : Thread nD τ).loc cc0_stg0_0) ↦{fullShare} factor m c)
    ∗ (∃ f, ((c : Thread nD τ).loc cc0_scratch0) ↦{fullShare} f)
    ∗ (∃ f, ((c : Thread nD τ).loc cc0_scratch1) ↦{fullShare} f)
    ∗ semVal (localCell c) 0)

/-- An own tile not yet computed, holding anything. -/
def blank (t : Fin 8) : sProp 𝕄 := iprop(∃ f, tileAt (F := F) c (tileNo c t) fullShare f)
/-- What starting the copy of slot `i` needs besides the tile: the room for it and the duties it pays. -/
def ticket (i : Slot) : sProp 𝕄 :=
  iprop(room (F := F) c i ∗ dutyTok ER (sendCell c i) 0 false ∗ dutyTok ER (recvCell (peer i.1 c) i) 0 false)
/-- What waiting for the arrival in slot `i` needs. -/
def awaiting (i : Slot) : sProp 𝕄 := iprop(cred (tallyAt (recvCell c i) () credN) ∗ atPos ER (recvCell c i) 0 ∅ 0)

/-- The state of device `c` after `t` tiles, `n` starts, `r` arrivals and `w` completions. -/
def St (t n r w : ℕ) : sProp 𝕄 :=
  iprop(recs m K ∗ levAts lvls level ∗ (∃ W, owes (c : Thread nD τ) (owed c n) W) ∗ work m c
    ∗ bigSep (toCompute t) (blank (F := F) c)
    ∗ bigSep (toStart n) (ticket (F := F) c)
    ∗ bigSep (atHand t n r w) (sentPay m c)
    ∗ bigSep (flying n w) (fun i => cred (tallyAt (sendCell c i) () credN))
    ∗ bigSep (toStart w) (fun i => atPos ER (sendCell c i) 0 ∅ 0)
    ∗ bigSep (landedBy w) (fun i => semVal (sendCell c i) 0)
    ∗ bigSep (toArrive r) (awaiting (F := F) c)
    ∗ bigSep (arrivedBy r) (fun i => semVal (recvCell c i) 0)
    ∗ bigSep (kept r) (gotPay m c))

omit [FloatOps F] in
/-- Taking one index out of a separating conjunction, or putting it in. -/
theorem bigSep_one {I : Type} [DecidableEq I] {s s' : Finset I} {i : I} (h : s = insert i s' ∧ i ∉ s') (Φ : I → sProp 𝕄) :
    bigSep s Φ = iprop(Φ i ∗ bigSep s' Φ) := by
  rw [h.1, bigSep_insert h.2]; rfl

/-- The rows of the result a copy or wait names. -/
abbrev outAtOff (off : Fin 2 → ℕ) (inb : ∀ a, off a + S512x4096.size a ≤ S16384x4096.size a) : Memref sig .tc .hbm S512x4096 .f32 :=
  outM.slice (Rect.unit (s := S16384x4096) off S512x4096.size inb) (fun _ => rfl)

/-- Starting the copy of slot `i`: the tile at hand goes, with the room for it, into the copy. -/
theorem step_send (i : Slot) {t r n n' : ℕ} (hn : n = startAt i) (hn' : n' = startAt i + 1)
    (h : if i.2.val < 8 then i.2.val < t else waitAt (cameBy i) < r)
    {dev : Dev nD} (hdev : dev = peer i.1 c) {sS sR : DmaSem sig} (hS : sS = dmaS false i) (hR : sR = dmaS true i)
    {off off' : Fin 2 → ℕ} {inb inb'} (hoff : off = ![512 * (sentTile c i).val, 0]) (hoff' : off' = ![512 * (sentTile c i).val, 0])
    {hsc : (outAtOff off' inb').view.ref.isScScratch = false}
    {hsrc : (outAtOff off inb).view.WordExact} {hdst : (outAtOff off' inb').view.WordExact}
    {hsem : DmaTarget.Typed .hbm (.dma sR) (.remote (Dev.tc dev : Thread nD τ) (outAtOff off' inb') (.dma sS) hsc)}
    {α : Type} {Q : α → sProp 𝕄} {k : PUnit → Prog (TpuEff nD τ sig (Elt F) Λ₀ .tc) α} :
    St m K c t n r 0 ⊢ iprop((St m K c t n' r 0 -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (outAtOff off inb) (.remote (Dev.tc dev : Thread nD τ) (outAtOff off' inb') (.dma sS) hsc) (.dma sR) hsrc hdst hsem) k) Q) := by
  subst hdev hS hR hoff hoff' hn hn'
  unfold St
  rw [bigSep_one (toStart_step i) (ticket (F := F) c), bigSep_one (atHand_start t r i h) (sentPay m c),
    bigSep_one (flying_start i) (fun i => (cred (tallyAt (sendCell c i) () credN) : sProp 𝕄))]
  unfold ticket room
  iintro ⟨#HC, #HL, ⟨%W, HO⟩, Hwork, Hcomp, ⟨⟨⟨%f, Hroom⟩, HtS, HtR⟩, Hstart⟩, ⟨Hs, Hhand⟩, Hfly, Hrest⟩ Hk
  unfold sentPay tileAt
  iapply (Rounds.wp_send_pointsTo 𝒱₀ ER (plan m) (c : Thread nD τ) none (κ₁ := K (c, some (false, i))) (κ₂ := K (peer i.1 c, some (true, i)))
    (r₁ := 0) (r₂ := 0) (d₁ := false) (d₂ := false) (fd := f)
    (by rw [duties_dma]; exact Finset.mem_singleton_self _) (by rw [duties_dma]; exact Finset.mem_singleton_self _)
    () () credN (show (tileM (sentTile c i)).view.amount (.dma (dmaS true i)) = credN from credN_tile _) (amount_dma m c _ false) (amount_dma m (peer i.1 c) _ false) (owed c (startAt i + 1)) (owed_step c i) (W := W)
    (by rw [payload_send]; exact BI.Entails.refl _)
    (by
      rw [payload_recv]; unfold gotPay; rw [gotTile_peer]; unfold tileAt
      rw [pointsTo_congr fun j hj => gathered_of_copy m (sentTile c i) f j hj]; exact BI.Entails.refl _))
    $$ [Hs Hroom HO HtS HtR]
  · isplitr; · iapply (recs_inv m K (c, some (false, i))); iexact HC
    isplitr; · iapply (recs_inv m K (peer i.1 c, some (true, i))); iexact HC
    isplitl [Hs]; · iexact Hs
    isplitl [Hroom]; · iexact Hroom
    isplitl [HO]; · iexact HO
    isplitl [HtS]; · iexact HtS
    isplitr; · iapply (recs_reached m K (c, some (false, i))); iexact HC
    isplitl [HtR]; · iexact HtR
    iapply (recs_reached m K (peer i.1 c, some (true, i))); iexact HC
  iintro ⟨Hcr, HO⟩
  iapply Hk
  isplitr; · iexact HC
  isplitr; · iexact HL
  isplitl [HO]; · iexists W; iexact HO
  isplitl [Hwork]; · iexact Hwork
  isplitl [Hcomp]; · iexact Hcomp
  isplitl [Hstart]; · iexact Hstart
  isplitl [Hhand]; · iexact Hhand
  isplitl [Hcr Hfly]
  · isplitl [Hcr]; · iexact Hcr
    iexact Hfly
  iexact Hrest

theorem credN_off (off : Fin 2 → ℕ) (inb) : (outAtOff off inb).view.dmaCredit = credN := by unfold credN; rfl

/-- Waiting for a transfer on the send or receive semaphore of a slot: its one duty's payload comes back, and the semaphore
    is closed at zero. -/
theorem wait_port (p : Bool × Slot) {n : ℕ} {W : Waits sig Unit} {P : sProp 𝕄}
    (hl : ∀ j ∈ toStart n, semLevel (.dma (dmaS p.1 p.2)) < if j.2.val < 8 then 2 else 3)
    (hP : bigSep ((plan (F := F) m).duties (portCell (c, some p)) 0 \ ∅) (fun d => (plan (F := F) m).payload (portCell (c, some p)) 0 d) = P)
    {off off' : Fin 2 → ℕ} {inb inb'}
    {hsrc : (outAtOff off inb).view.WordExact} {hdst : (outAtOff off' inb').view.WordExact}
    {α : Type} {Q : α → sProp 𝕄} {k : PUnit → Prog (TpuEff nD τ sig (Elt F) Λ₀ .tc) α} :
    iprop(recs m K ∗ levAts lvls level ∗ owes (c : Thread nD τ) (owed c n) W
        ∗ cred (tallyAt (portCell (c, some p)) () credN) ∗ atPos ER (portCell (c, some p)) 0 ∅ 0)
      ⊢ iprop((((∃ W, owes (c : Thread nD τ) (owed c n) W) ∗ P ∗ semVal (portCell (c, some p)) 0)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (dmaS p.1 p.2) (outAtOff off inb) (outAtOff off' inb') hsrc hdst) k) Q) := by
  iintro ⟨#HC, #HL, HO, Hcr, Hat⟩ Hk
  iapply (Rounds.wp_wait_rest_token 𝒱₀ ER (plan m) (c : Thread nD τ) none (κ := K (c, some p)) (k' := credN) (sm := .dma (dmaS p.1 p.2))
      (fun Kt => by rw [wpE_waitDma2_eq, credN_off]) (Set.mem_univ _) () (O := owed c n) (W := W) (R := 0) (m := 0) (T := ∅)
      (by rw [Nat.zero_add, expect_dma])) $$ [Hcr HO Hat]
  · isplitr; · iapply (recs_inv m K (c, some p)); iexact HC
    isplitl [Hcr]; · iexact Hcr
    isplitl [HO]; · iexact HO
    isplitr; · iapply (mayWait_owed (F := F) c (.dma (dmaS p.1 p.2)) n _ (le_refl _) hl); iexact HL
    iexact Hat
  iintro ⟨HO, Hat, -, Hpay⟩
  ihave HP := (Entails.of_eq hP) $$ Hpay
  imod (Rounds.cell_close ER (plan m) (Set.mem_univ (K (c, some p))) (fun h => h) (R := 0 + 1) (duties_over m (portCell (c, some p)))) $$ [Hat] with Hz
  · isplitr; · iapply (recs_inv m K (c, some p)); iexact HC
    iexact Hat
  iapply Hk
  isplitl [HO]; · iexists _; iexact HO
  isplitl [HP]; · iexact HP
  iexact Hz

/-- Waiting for an arrival whose tile is to be passed on: the tile is at hand. -/
theorem step_recv (d : Bool) (j : Fin 4) {n r r' : ℕ} (hn : n = startAt (passOn d j)) (hr : r = waitAt (cameBy (passOn d j)))
    (hr' : r' = waitAt (cameBy (passOn d j)) + 1) {sR : DmaSem sig} (hR : sR = dmaS true (cameBy (passOn d j)))
    {off off' : Fin 2 → ℕ} {inb inb'} {hsrc : (outAtOff off inb).view.WordExact} {hdst : (outAtOff off' inb').view.WordExact}
    {α : Type} {Q : α → sProp 𝕄} {k : PUnit → Prog (TpuEff nD τ sig (Elt F) Λ₀ .tc) α} :
    St m K c 8 n r 0 ⊢ iprop((St m K c 8 n r' 0 -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 sR (outAtOff off inb) (outAtOff off' inb') hsrc hdst) k) Q) := by
  subst hR hn hr hr'
  have hearly : ∀ (d : Bool) (j : Fin 4), waitAt (cameBy (passOn d j)) < 8 ∧ 16 ≤ startAt (passOn d j) ∧ (cameBy (passOn d j)).2.val < 8 := by
    decide +kernel
  obtain ⟨h8, h16, hlow⟩ := hearly d j
  unfold St
  rw [bigSep_one (toArrive_step (cameBy (passOn d j))) (awaiting (F := F) c), bigSep_one (arrivedBy_step (cameBy (passOn d j))) (fun i => (semVal (recvCell c i) 0 : sProp 𝕄)),
    kept_early _ h8, bigSep_one (atHand_arrive d j) (sentPay m c)]
  unfold awaiting
  iintro ⟨#HC, #HL, ⟨%W, HO⟩, Hwork, Hcomp, Hstart, Hhand, Hfly, Hpos, Hland, ⟨⟨Hcr, Hat⟩, Harr⟩, Hgot, Hkept⟩ Hk
  iapply (wait_port m K c (true, cameBy (passOn d j)) (n := startAt (passOn d j)) (W := W) (P := sentPay m c (passOn d j))
    (by
      rw [show semLevel (.dma (dmaS true (cameBy (passOn d j)))) = 2 from (level_recv c (cameBy (passOn d j))).trans (if_pos hlow)]
      exact passOn_levels h16)
    ((rest_recv m c (cameBy (passOn d j))).trans (by
      unfold gotPay sentPay shareOf
      rw [gotTile_cameBy, if_neg (by show ¬ (8 + j.val < 8); omega)]))) $$ [HO Hcr Hat]
  · isplitr; · iexact HC
    isplitr; · iexact HL
    isplitl [HO]; · iexact HO
    isplitl [Hcr]; · iexact Hcr
    iexact Hat
  iintro ⟨HO, HP, Hz⟩
  iapply Hk
  isplitr; · iexact HC
  isplitr; · iexact HL
  isplitl [HO]; · iexact HO
  isplitl [Hwork]; · iexact Hwork
  isplitl [Hcomp]; · iexact Hcomp
  isplitl [Hstart]; · iexact Hstart
  isplitl [HP Hhand]
  · isplitl [HP]; · iexact HP
    iexact Hhand
  isplitl [Hfly]; · iexact Hfly
  isplitl [Hpos]; · iexact Hpos
  isplitl [Hland]; · iexact Hland
  isplitl [Harr]; · iexact Harr
  isplitl [Hz Hgot]
  · isplitl [Hz]; · iexact Hz
    iexact Hgot
  iexact Hkept

/-- Waiting for an arrival whose tile stays: the tile is kept. -/
theorem step_keep (i : Slot) {r r' : ℕ} (hr : r = waitAt i) (hr' : r' = waitAt i + 1) (h8 : 8 ≤ waitAt i)
    {sR : DmaSem sig} (hR : sR = dmaS true i)
    {off off' : Fin 2 → ℕ} {inb inb'} {hsrc : (outAtOff off inb).view.WordExact} {hdst : (outAtOff off' inb').view.WordExact}
    {α : Type} {Q : α → sProp 𝕄} {k : PUnit → Prog (TpuEff nD τ sig (Elt F) Λ₀ .tc) α} :
    St m K c 8 24 r 0 ⊢ iprop((St m K c 8 24 r' 0 -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 sR (outAtOff off inb) (outAtOff off' inb') hsrc hdst) k) Q) := by
  subst hR hr hr'
  unfold St
  rw [bigSep_one (toArrive_step i) (awaiting (F := F) c), bigSep_one (arrivedBy_step i) (fun i => (semVal (recvCell c i) 0 : sProp 𝕄)),
    bigSep_one (kept_step i h8) (gotPay m c), atHand_keep]
  unfold awaiting
  iintro ⟨#HC, #HL, ⟨%W, HO⟩, Hwork, Hcomp, Hstart, Hhand, Hfly, Hpos, Hland, ⟨⟨Hcr, Hat⟩, Harr⟩, Hgot, Hkept⟩ Hk
  iapply (wait_port m K c (true, i) (n := 24) (W := W) (P := gotPay m c i) (no_levels (le_refl _) _) (rest_recv m c i)) $$ [HO Hcr Hat]
  · isplitr; · iexact HC
    isplitr; · iexact HL
    isplitl [HO]; · iexact HO
    isplitl [Hcr]; · iexact Hcr
    iexact Hat
  iintro ⟨HO, HP, Hz⟩
  iapply Hk
  isplitr; · iexact HC
  isplitr; · iexact HL
  isplitl [HO]; · iexact HO
  isplitl [Hwork]; · iexact Hwork
  isplitl [Hcomp]; · iexact Hcomp
  isplitl [Hstart]; · iexact Hstart
  isplitl [Hhand]; · iexact Hhand
  isplitl [Hfly]; · iexact Hfly
  isplitl [Hpos]; · iexact Hpos
  isplitl [Hland]; · iexact Hland
  isplitl [Harr]; · iexact Harr
  isplitl [Hz Hgot]
  · isplitl [Hz]; · iexact Hz
    iexact Hgot
  isplitl [HP]; · iexact HP
  iexact Hkept

/-- Waiting for an own copy: the share of the tile it took is back. -/
theorem step_done (i : Slot) {w w' : ℕ} (hw : w = startAt i) (hw' : w' = startAt i + 1) {sS : DmaSem sig} (hS : sS = dmaS false i)
    {off off' : Fin 2 → ℕ} {inb inb'} {hsrc : (outAtOff off inb).view.WordExact} {hdst : (outAtOff off' inb').view.WordExact}
    {α : Type} {Q : α → sProp 𝕄} {k : PUnit → Prog (TpuEff nD τ sig (Elt F) Λ₀ .tc) α} :
    St m K c 8 24 24 w ⊢ iprop((St m K c 8 24 24 w' -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 sS (outAtOff off inb) (outAtOff off' inb') hsrc hdst) k) Q) := by
  subst hS hw hw'
  unfold St
  rw [bigSep_one (atHand_land i) (sentPay m c), bigSep_one (flying_land i) (fun i => (cred (tallyAt (sendCell c i) () credN) : sProp 𝕄)),
    bigSep_one (toStart_step i) (fun i => (atPos ER (sendCell c i) 0 ∅ 0 : sProp 𝕄)), bigSep_one (landedBy_step i) (fun i => (semVal (sendCell c i) 0 : sProp 𝕄))]
  iintro ⟨#HC, #HL, ⟨%W, HO⟩, Hwork, Hcomp, Hstart, Hhand, ⟨Hcr, Hfly⟩, ⟨Hat, Hpos⟩, Hland, Hrest⟩ Hk
  iapply (wait_port m K c (false, i) (n := 24) (W := W) (P := sentPay m c i) (no_levels (le_refl _) _) (rest_send m c i)) $$ [HO Hcr Hat]
  · isplitr; · iexact HC
    isplitr; · iexact HL
    isplitl [HO]; · iexact HO
    isplitl [Hcr]; · iexact Hcr
    iexact Hat
  iintro ⟨HO, HP, Hz⟩
  iapply Hk
  isplitr; · iexact HC
  isplitr; · iexact HL
  isplitl [HO]; · iexact HO
  isplitl [Hwork]; · iexact Hwork
  isplitl [Hcomp]; · iexact Hcomp
  isplitl [Hstart]; · iexact Hstart
  isplitl [HP Hhand]
  · isplitl [HP]; · iexact HP
    iexact Hhand
  isplitl [Hfly]; · iexact Hfly
  isplitl [Hpos]; · iexact Hpos
  isplitl [Hz Hland]
  · isplitl [Hz]; · iexact Hz
    iexact Hland
  iexact Hrest

/-! ## Computing a tile -/

abbrev aM : Memref sig .tc .vmem S512x2048 .f32 := Memref.whole cc0_scratch0
abbrev bM : Memref sig .tc .vmem S2048x4096 .f32 := Memref.whole cc0_stg0_0
abbrev pM : Memref sig .tc .vmem S512x4096 .f32 := Memref.whole cc0_scratch1

/-- The rows of the device's block of `A` a copy names. -/
abbrev rowsAtOff (off : Fin 2 → ℕ) (inb : ∀ a, off a + S512x2048.size a ≤ S4096x2048.size a) : Memref sig .tc .hbm S512x2048 .f32 :=
  (Memref.whole main_arg0 : Memref sig .tc .hbm S4096x2048 .f32).slice (Rect.unit (s := S4096x2048) off S512x2048.size inb) (fun _ => rfl)

theorem hz : (![0, 0] : Fin 2 → Nat) = fun _ => 0 := funext fun a => by fin_cases a <;> rfl

theorem read_a (ia) (f : (cc0_scratch0 : Ref sig .tc).ty.Contents (Elt F)) :
    (aM : Memref sig .tc .vmem S512x2048 .f32).view.readAt (Elt F) (Rect.unit (s := S512x2048) ![0, 0] S512x2048.size ia).toLoadRect f = f :=
  Memref.readAt_unit_zero (Elt F) cc0_scratch0 hz _ f
theorem read_b (ib) (f : (cc0_stg0_0 : Ref sig .tc).ty.Contents (Elt F)) :
    (bM : Memref sig .tc .vmem S2048x4096 .f32).view.readAt (Elt F) (Rect.unit (s := S2048x4096) ![0, 0] S2048x4096.size ib).toLoadRect f = f :=
  Memref.readAt_unit_zero (Elt F) cc0_stg0_0 hz _ f
theorem write_p (ip) (f w : (cc0_scratch1 : Ref sig .tc).ty.Contents (Elt F)) :
    ((pM : Memref sig .tc .vmem S512x4096 .f32).access (Rect.unit (s := S512x4096) ![0, 0] S512x4096.size ip) : View sig .tc _ _ _).write (Elt F) f w Finset.univ = w :=
  Memref.write_access_unit_zero_univ (Elt F) cc0_scratch1 hz _ f w

/-- An own tile of the result is the two halves its two copies take. -/
theorem own_halves (t : Fin 8) : tileAt c (tileNo c t) fullShare (gathered m) ⊣⊢ iprop(sentPay m c (ownSlot true t) ∗ sentPay m c (ownSlot false t)) := by
  unfold sentPay shareOf tileAt
  rw [sentTile_own, sentTile_own, if_pos (show (ownSlot true t).2.val < 8 from t.isLt), if_pos (show (ownSlot false t).2.val < 8 from t.isLt),
    if_pos (show (ownSlot true t).1 = true from rfl), if_neg (show ¬ (ownSlot false t).1 = true from Bool.false_ne_true)]
  exact pointsTo_share (PosShare.mem_left_op_right fullShare)

/-- The product of a tile's rows with `B`, copied to the tile, is the result there. -/
theorem gathered_of_product (t : Fin 8) (f : (main_v1 : Ref sig .tc).ty.Contents (Elt F)) (i : (main_v1 : Ref sig .tc).ty.Idx)
    (hi : i ∈ tileSet (tileNo c t)) :
    (tileM (tileNo c t)).view.write (Elt F) f (k0_pay1 (rowsOf m c t) (factor m c)) Finset.univ i = gathered m i := by
  rw [← gathered_of_write m (tileNo c t) f i hi]
  unfold tileVal
  rw [origin_tileNo, part_tileNo]

theorem mayWait_local (n : ℕ) : (levAts lvls level : sProp 𝕄) ⊢ MayWait (c : Thread nD τ) (.dma localS) () (owed c n) :=
  mayWait_owed c (.dma localS) n 1 (by rw [show semLevel (.dma localS) = 0 from level_local c]; exact Nat.zero_le _) (low_levels n)

set_option maxHeartbeats 1000000 in
/-- Computing tile `t`: its rows of `A` are copied in, multiplied by `B`, and the product is copied out to the tile. -/
theorem step_tile (t : Fin 8) {n n' : ℕ} (hn : n = t.val) (hn' : n' = t.val + 1) {s : ℕ} (hs : s = 2 * t.val)
    {p : Vec F S512x2048 .f32 → Vec F S2048x4096 .f32 → FVec F S512x4096 .f32} (hp : p = k0_pay1)
    {q q' q₁ q₁' : DmaSem sig} (hq : q = localS) (hq' : q' = localS) (hq₁ : q₁ = localS) (hq₁' : q₁' = localS)
    {off off' off₁ off₁' : Fin 2 → ℕ} {inb inb' inb₁ inb₁'} (hoff : off = ![512 * t.val, 0]) (hoff₁ : off₁ = ![512 * (tileNo c t).val, 0])
    {ia ib ip}
    {h₁ : (rowsAtOff off inb).view.WordExact} {h₂ : aM.view.WordExact} {h₃ : DmaTarget.Typed .hbm (.dma q) (.here aM : DmaTarget nD τ sig .tc .vmem S512x2048 .f32)}
    {h₄ : (rowsAtOff off' inb').view.WordExact} {h₅ : aM.view.WordExact}
    {la : aM.view.LoadsAt (Rect.unit (s := S512x2048) ![0, 0] S512x2048.size ia).toLoadRect}
    {lb : bM.view.LoadsAt (Rect.unit (s := S2048x4096) ![0, 0] S2048x4096.size ib).toLoadRect}
    {lp : pM.view.LoadsAt (Rect.unit (s := S512x4096) ![0, 0] S512x4096.size ip).toLoadRect}
    {sp : (pM.access (Rect.unit (s := S512x4096) ![0, 0] S512x4096.size ip)).Stores Finset.univ} {sm}
    {g₁ : pM.view.WordExact} {g₂ : (outAtOff off₁ inb₁).view.WordExact} {g₃ : DmaTarget.Typed .vmem (.dma q₁) (.here (outAtOff off₁ inb₁) : DmaTarget nD τ sig .tc .hbm S512x4096 .f32)}
    {g₄ : pM.view.WordExact} {g₅ : (outAtOff off₁' inb₁').view.WordExact}
    {α : Type} {Q : α → sProp 𝕄} {k : PUnit → Prog (TpuEff nD τ sig (Elt F) Λ₀ .tc) α} :
    St m K c n s 0 0 ⊢ iprop((St m K c n' s 0 0 -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (rowsAtOff off inb) (.here aM) (.dma q) h₁ h₂ h₃) fun _ =>
            .op (.waitDma2 q' (rowsAtOff off' inb') aM h₄ h₅) fun _ =>
            .op (.load aM (Rect.unit (s := S512x2048) ![0, 0] S512x2048.size ia).toLoadRect la) fun va =>
            .op (.load bM (Rect.unit (s := S2048x4096) ![0, 0] S2048x4096.size ib).toLoadRect lb) fun vb =>
            .op (.load pM (Rect.unit (s := S512x4096) ![0, 0] S512x4096.size ip).toLoadRect lp) fun _ =>
            .op (.store pM (Rect.unit (s := S512x4096) ![0, 0] S512x4096.size ip) (p va vb) Finset.univ sp sm) fun _ =>
            .op (.enqueueDma pM (.here (outAtOff off₁ inb₁)) (.dma q₁) g₁ g₂ g₃) fun _ =>
            .op (.waitDma2 q₁' pM (outAtOff off₁' inb₁') g₄ g₅) k) Q) := by
  subst hn hn' hs hp hq hq' hq₁ hq₁' hoff hoff₁
  unfold St
  rw [bigSep_one (toCompute_step t) (blank (F := F) c), bigSep_one ⟨(atHand_compute t).1, (atHand_compute t).2.1⟩ (sentPay m c),
    bigSep_one ⟨rfl, (atHand_compute t).2.2⟩ (sentPay m c)]
  unfold work blank tileAt
  iintro ⟨#HC, #HL, ⟨%W, HO⟩, ⟨HA, HB, ⟨%fa, Ha⟩, ⟨%fp, Hp⟩, Hv⟩, ⟨⟨%f, Ht⟩, Hcomp⟩, Hstart, Hhand, Hrest⟩ Hk
  ihave HA2 := (pointsTo_split_subset (f := m ((c : Thread nD τ).loc main_arg0)) (q := fullShare) (Finset.subset_univ (rowsM t).view.set)).1 $$ HA
  icases HA2 with ⟨Hrows, HArest⟩
  iapply (Transfers.wp_dmaLocal EC 𝒱₀ (c : Thread nD τ) none (src := rowsM t) (dst := aM) (q := fullShare) (Sd := Finset.univ) (fd := fa) () (aM.view.dmaCredit) rfl
    (View.dmaCredit_pos _ (by decide)) (Finset.subset_univ _)) $$ [Hrows Ha Hv]
  · isplitl [Hrows]; · iexact Hrows
    isplitl [Ha]; · iexact Ha
    iexact Hv
  iintro HF
  iapply (Transfers.wp_waitLocalO EC 𝒱₀ (c : Thread nD τ) none () (N := aM.view.dmaCredit) rfl) $$ [HF HO]
  · isplitl [HF]; · iexact HF
    isplitl [HO]; · iexact HO
    iapply (mayWait_local (F := F) c (2 * t.val)); iexact HL
  iintro ⟨⟨Ha, Hrows⟩, Hv, HO⟩
  ihave HA := (pointsTo_split_subset (f := m ((c : Thread nD τ).loc main_arg0)) (q := fullShare) (Finset.subset_univ (rowsM t).view.set)).2 $$ [Hrows HArest]
  · isplitl [Hrows]; · iexact Hrows
    iexact HArest
  have hcopy : aM.view.write (Elt F) fa ((ReadAs.same : ReadAs (Elt F) S512x2048 .f32 S512x2048 .f32).apply
      ((rowsM t).view.read (Elt F) (m ((c : Thread nD τ).loc main_arg0)))) Finset.univ = rowsOf m c t := View.write_whole_univ _ _ _
  rw [hcopy]
  iapply (wp_load 𝒱₀ (c : Thread nD τ) none Set.univ (m := aM) (Finset.subset_univ _)) $$ Ha; iintro Ha
  rw [read_a]
  iapply (wp_load 𝒱₀ (c : Thread nD τ) none Set.univ (m := bM) (Finset.subset_univ _)) $$ HB; iintro HB
  rw [read_b]
  iapply (wp_load 𝒱₀ (c : Thread nD τ) none Set.univ (m := pM) (Finset.subset_univ _)) $$ Hp; iintro Hp
  iapply (wp_store 𝒱₀ (c : Thread nD τ) none Set.univ (m := pM) (r := Rect.unit (s := S512x4096) ![0, 0] S512x4096.size ip) (Mk := Finset.univ)
    (Finset.subset_univ _)) $$ Hp; iintro Hp
  rw [write_p]
  iapply (Transfers.wp_dmaLocal EC 𝒱₀ (c : Thread nD τ) none (src := pM) (dst := tileM (tileNo c t)) (q := fullShare) (Sd := tileSet (tileNo c t)) (fd := f) ()
    credN (show (tileM (tileNo c t)).view.amount (.dma localS) = credN from credN_tile _) credN_pos (Finset.Subset.refl _)) $$ [Hp Ht Hv]
  · isplitl [Hp]; · rw [View.set_whole]; iexact Hp
    isplitl [Ht]; · iexact Ht
    iexact Hv
  iintro HF
  iapply (Transfers.wp_waitLocalO EC 𝒱₀ (c : Thread nD τ) none () (N := credN) (credN_off _ _)) $$ [HF HO]
  · isplitl [HF]; · iexact HF
    isplitl [HO]; · iexact HO
    iapply (mayWait_local (F := F) c (2 * t.val)); iexact HL
  iintro ⟨⟨Ht, Hp⟩, Hv, HO⟩
  have hprod : (((c : Thread nD τ).loc main_v1) ↦[tileSet (tileNo c t)]{fullShare} (tileM (tileNo c t)).view.write (Elt F) f
      ((ReadAs.same : ReadAs (Elt F) S512x4096 .f32 S512x4096 .f32).apply (pM.view.read (Elt F) (k0_pay1 (rowsOf m c t) (factor m c)))) Finset.univ : sProp 𝕄)
      = tileAt c (tileNo c t) fullShare (gathered m) := pointsTo_congr fun i hi => gathered_of_product m c t f i hi
  ihave Ht := ((Entails.of_eq hprod).trans (own_halves m c t).1) $$ Ht
  icases Ht with ⟨Hr, Hl⟩
  iapply Hk
  isplitr; · iexact HC
  isplitr; · iexact HL
  isplitl [HO]; · iexists _; iexact HO
  isplitl [HA HB Ha Hp Hv]
  · isplitl [HA]; · iexact HA
    isplitl [HB]; · iexact HB
    isplitl [Ha]; · iexists _; iexact Ha
    isplitl [Hp]; · rw [View.set_whole]; iexists _; iexact Hp
    iexact Hv
  isplitl [Hcomp]; · iexact Hcomp
  isplitl [Hstart]; · iexact Hstart
  isplitl [Hr Hl Hhand]
  · isplitl [Hr]; · iexact Hr
    isplitl [Hl]; · iexact Hl
    iexact Hhand
  iexact Hrest

end Cert.KernelIdeal.Gather
-- ==== Proof.KernelIdeal.Ends.lean ====
/-
# What a device holds before the first step and after the last

Before the body a device holds its whole result buffer, 32 tiles of it. The 24 that its neighbours will write it hands to
them with its two signals; what it gets for them is the room for its own 24 copies. After the last step its own eight tiles
and the 24 that arrived are its result buffer again, now holding the whole result.
-/
module

public import proofs.«01_k».proof.Proof.KernelIdeal.Steps
public import Idealize.ShloMosaic.Lib.Ring

@[expose] public section

set_option maxRecDepth 16384

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Port → ℕ) (c : Dev nD)

omit [FloatOps F] in
theorem bigSep_bool (Φ : Bool → sProp 𝕄) : bigSep Finset.univ Φ = iprop(Φ true ∗ Φ false) :=
  bigSep_univ_eq_bigSepL [true, false] (by decide) (by decide) Φ

omit [FloatOps F] in
/-- The whole result buffer is the device's own eight tiles and the 24 tiles that arrive. -/
theorem whole_tiles (f : (main_v1 : Ref sig .tc).ty.Contents (Elt F)) :
    (((c : Thread nD τ).loc main_v1) ↦{fullShare} f : sProp 𝕄)
      = iprop((bigSep Finset.univ fun t : Fin 8 => tileAt c (tileNo c t) fullShare f)
          ∗ bigSep Finset.univ fun i : Slot => tileAt c (gotTile c i) fullShare f) := by
  refine (Ring.pointsTo_blocks (ℓ := (c : Thread nD τ).loc main_v1) (q := fullShare) tileSet tileSet_disjoint tileSet_cover f).trans ?_
  rw [bigSep_univ_equiv (Equiv.ofBijective (allTiles c) (allTiles_bij c)) (fun q => (((c : Thread nD τ).loc main_v1) ↦[tileSet q]{fullShare} f : sProp 𝕄)),
    BI.bigSep_univ_sum]
  rfl

/-- What the device hands its neighbour on the other side of direction `d`: the tiles that arrive in direction `d`. -/
theorem give (d : Bool) (f : (main_v1 : Ref sig .tc).ty.Contents (Elt F)) :
    (bigSep Finset.univ fun k : Fin 12 => tileAt c (gotTile c (d, k)) fullShare f) ⊢ barPay (F := F) (peer (!d) c) d := by
  unfold barPay
  refine BI.bigSep_mono fun k _ => ?_
  show _ ⊢ room (F := F) (peer (!d) c) (d, k)
  unfold room sentTile
  rw [peer_back]
  show _ ⊢ (iprop(∃ f, tileAt c (sentTile (peer (!d) c) (d, k)) fullShare f) : sProp 𝕄)
  iintro H
  iexists f
  iexact H

/-- What stays with the device through its signals and its first wait. -/
def mine : sProp 𝕄 :=
  iprop(work m c ∗ bigSep Finset.univ (blank (F := F) c)
    ∗ (bigSep Finset.univ fun i : Slot => iprop(dutyTok ER (sendCell c i) 0 false ∗ dutyTok ER (recvCell (peer i.1 c) i) 0 false))
    ∗ (bigSep Finset.univ fun i : Slot => atPos ER (sendCell c i) 0 ∅ 0)
    ∗ bigSep Finset.univ (awaiting (F := F) c))

/-- What the device holds before the body. -/
def before : sProp 𝕄 :=
  iprop(recs m K ∗ levAts lvls level ∗ (∃ W, owes (c : Thread nD τ) (owedBar₀ c) W)
    ∗ barPay (F := F) (peer false c) true ∗ barPay (F := F) (peer true c) false
    ∗ dutyTok ER (barCell (peer false c)) 0 true ∗ dutyTok ER (barCell (peer true c)) 0 false
    ∗ cred (tallyAt (barCell c) () 2) ∗ atPos ER (barCell c) 0 ∅ 0 ∗ mine m c)

/-- What the device holds after the body. -/
def finished : sProp 𝕄 :=
  iprop((∃ W, owes (c : Thread nD τ) 0 W) ∗ work m c ∗ (((c : Thread nD τ).loc main_v1) ↦{fullShare} gathered m)
    ∗ semVal (barCell c) 0 ∗ (bigSep Finset.univ fun i : Slot => semVal (sendCell c i) 0) ∗ bigSep Finset.univ fun i : Slot => semVal (recvCell c i) 0)

/-- The tickets of all copies are the rooms and the duties' tokens. -/
theorem tickets : iprop((bigSep Finset.univ fun i : Slot => room (F := F) c i)
      ∗ bigSep Finset.univ fun i : Slot => iprop(dutyTok ER (sendCell c i) 0 false ∗ dutyTok ER (recvCell (peer i.1 c) i) 0 false))
    ⊢ bigSep Finset.univ (ticket (F := F) c) := by
  rw [← bigSep_sep']
  exact BI.bigSep_mono fun i _ => by unfold ticket; exact BI.Entails.refl _

/-- After the first wait the steps can begin. -/
theorem begin_steps (W : Waits sig Unit) :
    iprop(recs m K ∗ levAts lvls level ∗ owes (c : Thread nD τ) (owed c 0) W ∗ (bigSep Finset.univ fun i : Slot => room (F := F) c i) ∗ mine m c)
      ⊢ St m K c 0 0 0 0 := by
  unfold St mine
  rw [toCompute_zero, toStart_zero, atHand_zero, flying_zero, landedBy_zero, toArrive_zero, arrivedBy_zero, kept_zero]
  simp only [bigSep_empty]
  iintro ⟨#HC, #HL, HO, Hroom, Hwork, Hblank, Htok, Hpos, Hwait⟩
  isplitr; · iexact HC
  isplitr; · iexact HL
  isplitl [HO]; · iexists W; iexact HO
  isplitl [Hwork]; · iexact Hwork
  isplitl [Hblank]; · iexact Hblank
  isplitl [Hroom Htok]
  · iapply (tickets c)
    isplitl [Hroom]; · iexact Hroom
    iexact Htok
  isplitr; · iempintro
  isplitr; · iempintro
  isplitl [Hpos]; · iexact Hpos
  isplitr; · iempintro
  isplitl [Hwait]; · iexact Hwait
  isplitr <;> iempintro

/-- Every slot is one of the own tiles' or one of those passing on. -/
def slotSum : (Bool × Fin 8) ⊕ (Bool × Fin 4) → Slot := Sum.elim (fun p => ownSlot p.1 p.2) fun p => passOn p.1 p.2

theorem slotSum_bij : Function.Bijective slotSum := by
  rw [Fintype.bijective_iff_injective_and_card]
  exact ⟨by decide +kernel, by decide⟩

/-- The slots whose arrivals are passed on. -/
def relayed : Bool × Fin 4 ↪ Slot := ⟨fun p => cameBy (passOn p.1 p.2), by decide +kernel⟩

theorem kept_relayed : kept 24 ∪ Finset.univ.map relayed = Finset.univ ∧ Disjoint (kept 24) (Finset.univ.map relayed) := by decide +kernel

theorem passOn_back (d : Bool) (j : Fin 4) : sentPay m c (passOn d j) = gotPay m c (cameBy (passOn d j)) := by
  unfold gotPay sentPay shareOf
  rw [gotTile_cameBy, if_neg (by show ¬ (8 + j.val < 8); omega)]

/-- After the last step the tiles at hand and those kept are the whole result. -/
theorem all_back : iprop(bigSep (atHand 8 24 24 24) (sentPay m c) ∗ bigSep (kept 24) (gotPay m c))
    ⊢ (((c : Thread nD τ).loc main_v1) ↦{fullShare} gathered m) := by
  rw [atHand_all, whole_tiles, bigSep_univ_equiv (Equiv.ofBijective slotSum slotSum_bij) (sentPay m c), BI.bigSep_univ_sum]
  show iprop(((bigSep Finset.univ fun p : Bool × Fin 8 => sentPay m c (ownSlot p.1 p.2)) ∗ (bigSep Finset.univ fun p : Bool × Fin 4 => sentPay m c (passOn p.1 p.2)))
    ∗ bigSep (kept 24) (gotPay m c)) ⊢ _
  have h₁ : (bigSep Finset.univ fun p : Bool × Fin 8 => sentPay m c (ownSlot p.1 p.2))
      ⊢ bigSep Finset.univ fun t : Fin 8 => tileAt c (tileNo c t) fullShare (gathered m) := by
    rw [bigSep_univ_prod, bigSep_bool, ← bigSep_sep']
    exact BI.bigSep_mono fun t _ => (own_halves m c t).2
  have h₂ : iprop(bigSep (kept 24) (gotPay m c) ∗ bigSep Finset.univ fun p : Bool × Fin 4 => sentPay m c (passOn p.1 p.2))
      = bigSep Finset.univ (gotPay m c) := by
    rw [← kept_relayed.1, bigSep_union kept_relayed.2, bigSep_map]
    refine congrArg (fun X => iprop(bigSep (kept 24) (gotPay m c) ∗ X)) (bigSep_congr fun p _ => passOn_back m c p.1 p.2)
  iintro ⟨⟨Hown, Hpass⟩, Hkept⟩
  isplitl [Hown]
  · iapply h₁; iexact Hown
  · iapply (Entails.of_eq h₂)
    isplitl [Hkept]; · iexact Hkept
    iexact Hpass

theorem end_steps : iprop(St m K c 8 24 24 24 ∗ semVal (barCell c) 0) ⊢ finished m c := by
  unfold St finished
  rw [toCompute_eight, toStart_all, flying_all, landedBy_all, toArrive_all, arrivedBy_all, owed_all]
  simp only [bigSep_empty]
  iintro ⟨⟨-, -, HO, Hwork, -, -, Hhand, -, -, Hland, -, Harr, Hkept⟩, Hz⟩
  isplitl [HO]; · iexact HO
  isplitl [Hwork]; · iexact Hwork
  isplitl [Hhand Hkept]
  · iapply (all_back m c)
    isplitl [Hhand]; · iexact Hhand
    iexact Hkept
  isplitl [Hz]; · iexact Hz
  isplitl [Hland]; · iexact Hland
  iexact Harr

end Cert.KernelIdeal.Gather
-- ==== Proof.KernelIdeal.Body.lean ====
/-
# The body of the kernel, step by step

A device signals both neighbours, handing each the tiles of its own result buffer that neighbour will write, and waits for
both to have done so. Then it goes through the steps of `Steps.lean` in program order: the eight tiles, each computed and
sent both ways; the eight arrivals that are passed on, each followed by its copy; the other arrivals; and the waits for
its own copies. At the end it holds the whole result.
-/
module

public import proofs.«01_k».proof.Proof.KernelIdeal.Ends

@[expose] public section

set_option maxRecDepth 16384

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Port → ℕ) (c : Dev nD)

/-! ## What the program's index arithmetic names -/

/-- The first signal goes to the previous device, the second to the next. -/
theorem dev_bar₁ : ∀ c : Dev nD, (⟨k0_dev1 c, k0_dev1_lt c⟩ : Dev nD) = peer false c := by decide +kernel
theorem dev_bar₂ : ∀ c : Dev nD, (⟨k0_dev2 c, k0_dev2_lt c⟩ : Dev nD) = peer true c := by decide +kernel
/-- The copies go to the next device and to the previous one in turn. -/
theorem dev_next : ∀ c : Dev nD, (⟨k0_dev3 c, k0_dev3_lt c⟩ : Dev nD) = peer true c := by decide +kernel
theorem dev_prev : ∀ c : Dev nD, (⟨k0_dev4 c, k0_dev4_lt c⟩ : Dev nD) = peer false c := by decide +kernel
/-- Where the tiles lie that the copies send. -/
theorem off_own : ∀ (c : Dev nD) (d : Bool) (t : Fin 8), k0_off1 c (BitVec.ofNat 32 (512 * t.val)) = ![512 * (sentTile c (ownSlot d t)).val, 0] := by
  decide +kernel
theorem off_tile : ∀ (c : Dev nD) (t : Fin 8), k0_off1 c (BitVec.ofNat 32 (512 * t.val)) = ![512 * (tileNo c t).val, 0] := by
  decide +kernel
theorem off_next : ∀ (c : Dev nD) (j : Fin 4), k0_off2 c (BitVec.ofNat 32 (512 * j.val)) = ![512 * (sentTile c (passOn true j)).val, 0] := by
  decide +kernel
theorem off_prev : ∀ (c : Dev nD) (j : Fin 4), k0_off3 c 1#32 (BitVec.ofNat 32 (2048 + 512 * j.val)) = ![512 * (sentTile c (passOn false j)).val, 0] := by
  decide +kernel

/-! ## The body -/

set_option maxHeartbeats 2000000 in
/-- The body takes a device from what it holds at the start to what it holds at the end. -/
theorem sound_body (Kt : PUnit → sProp 𝕄) :
    iprop(before m K c ∗ (finished m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel
  simp only [semSignalWord, semWaitWord, Prog.lift, Prog.bind_op, Prog.bind_ret, Prog.pure_eq_ret, wp_deviceId, dev_bar₁ c, dev_bar₂ c]
  unfold before
  iintro ⟨⟨#HC, #HL, ⟨%W, HO⟩, Hgive₁, Hgive₂, HtB₁, HtB₂, HcB, HatB, Hmine⟩, Hk⟩
  unfold owedBar₀
  iapply (Rounds.wp_signal 𝒱₀ ER (plan m) (c : Thread nD τ) none (dst := (peer false c : Thread nD τ)) (κ := K (peer false c, none))
      (d := true) (by rw [duties_bar]; exact Finset.mem_univ _) ((amount_bar m (peer false c) true).trans (by decide)) () (owedBar₁ c) rfl)
    $$ [HO HtB₁ Hgive₁]
  · isplitr; · iapply (recs_inv m K (peer false c, none)); iexact HC
    isplitl [HO]; · iexact HO
    isplitl [HtB₁]; · iexact HtB₁
    isplitl [Hgive₁]; · rw [payload_bar]; iexact Hgive₁
    iapply (recs_reached m K (peer false c, none)); iexact HC
  iintro HO
  unfold owedBar₁
  iapply (Rounds.wp_signal 𝒱₀ ER (plan m) (c : Thread nD τ) none (dst := (peer true c : Thread nD τ)) (κ := K (peer true c, none))
      (d := false) (by rw [duties_bar]; exact Finset.mem_univ _) ((amount_bar m (peer true c) false).trans (by decide)) () (owed c 0) rfl)
    $$ [HO HtB₂ Hgive₂]
  · isplitr; · iapply (recs_inv m K (peer true c, none)); iexact HC
    isplitl [HO]; · iexact HO
    isplitl [HtB₂]; · iexact HtB₂
    isplitl [Hgive₂]; · rw [payload_bar]; iexact Hgive₂
    iapply (recs_reached m K (peer true c, none)); iexact HC
  iintro HO
  iapply (Rounds.wp_wait_rest_token 𝒱₀ ER (plan m) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [HcB HO HatB]
  · isplitr; · iapply (recs_inv m K (c, none)); iexact HC
    isplitl [HcB]; · iexact HcB
    isplitl [HO]; · iexact HO
    isplitr; · iapply (mayWait_owed (F := F) c (.reg barS) 0 1 (le_refl _) (low_levels 0)); iexact HL
    iexact HatB
  iintro ⟨HO, HatB, -, Hpay⟩
  ihave Hroom := (Entails.of_eq (rest_bar m c)) $$ Hpay
  imod (Rounds.cell_close ER (plan m) (Set.mem_univ (K (c, none))) (fun h => h) (R := 0 + 1) (duties_over m (barCell c))) $$ [HatB] with Hz
  · isplitr; · iapply (recs_inv m K (c, none)); iexact HC
    iexact HatB
  ihave HS := (begin_steps m K c (insert (SemLoc.reg barS, ()) W)) $$ [HO Hroom Hmine]
  · isplitr; · iexact HC
    isplitr; · iexact HL
    isplitl [HO]; · iexact HO
    isplitl [Hroom]; · iexact Hroom
    iexact Hmine
  iapply (step_tile m K c 0 (n := 0) (n' := 1) rfl rfl (s := 0) rfl rfl rfl rfl rfl rfl rfl (off_tile c 0)) $$ HS; iintro HS
  iapply (step_send m K c (ownSlot true 0) (t := 1) (r := 0) (n := 0) (n' := 1) rfl rfl (by decide) (dev_next c) rfl rfl (off_own c true 0) (off_own c true 0)) $$ HS; iintro HS
  iapply (step_send m K c (ownSlot false 0) (t := 1) (r := 0) (n := 1) (n' := 2) rfl rfl (by decide) (dev_prev c) rfl rfl (off_own c false 0) (off_own c false 0)) $$ HS; iintro HS
  iapply (step_tile m K c 1 (n := 1) (n' := 2) rfl rfl (s := 2) rfl rfl rfl rfl rfl rfl rfl (off_tile c 1)) $$ HS; iintro HS
  iapply (step_send m K c (ownSlot true 1) (t := 2) (r := 0) (n := 2) (n' := 3) rfl rfl (by decide) (dev_next c) rfl rfl (off_own c true 1) (off_own c true 1)) $$ HS; iintro HS
  iapply (step_send m K c (ownSlot false 1) (t := 2) (r := 0) (n := 3) (n' := 4) rfl rfl (by decide) (dev_prev c) rfl rfl (off_own c false 1) (off_own c false 1)) $$ HS; iintro HS
  iapply (step_tile m K c 2 (n := 2) (n' := 3) rfl rfl (s := 4) rfl rfl rfl rfl rfl rfl rfl (off_tile c 2)) $$ HS; iintro HS
  iapply (step_send m K c (ownSlot true 2) (t := 3) (r := 0) (n := 4) (n' := 5) rfl rfl (by decide) (dev_next c) rfl rfl (off_own c true 2) (off_own c true 2)) $$ HS; iintro HS
  iapply (step_send m K c (ownSlot false 2) (t := 3) (r := 0) (n := 5) (n' := 6) rfl rfl (by decide) (dev_prev c) rfl rfl (off_own c false 2) (off_own c false 2)) $$ HS; iintro HS
  iapply (step_tile m K c 3 (n := 3) (n' := 4) rfl rfl (s := 6) rfl rfl rfl rfl rfl rfl rfl (off_tile c 3)) $$ HS; iintro HS
  iapply (step_send m K c (ownSlot true 3) (t := 4) (r := 0) (n := 6) (n' := 7) rfl rfl (by decide) (dev_next c) rfl rfl (off_own c true 3) (off_own c true 3)) $$ HS; iintro HS
  iapply (step_send m K c (ownSlot false 3) (t := 4) (r := 0) (n := 7) (n' := 8) rfl rfl (by decide) (dev_prev c) rfl rfl (off_own c false 3) (off_own c false 3)) $$ HS; iintro HS
  iapply (step_tile m K c 4 (n := 4) (n' := 5) rfl rfl (s := 8) rfl rfl rfl rfl rfl rfl rfl (off_tile c 4)) $$ HS; iintro HS
  iapply (step_send m K c (ownSlot true 4) (t := 5) (r := 0) (n := 8) (n' := 9) rfl rfl (by decide) (dev_next c) rfl rfl (off_own c true 4) (off_own c true 4)) $$ HS; iintro HS
  iapply (step_send m K c (ownSlot false 4) (t := 5) (r := 0) (n := 9) (n' := 10) rfl rfl (by decide) (dev_prev c) rfl rfl (off_own c false 4) (off_own c false 4)) $$ HS; iintro HS
  iapply (step_tile m K c 5 (n := 5) (n' := 6) rfl rfl (s := 10) rfl rfl rfl rfl rfl rfl rfl (off_tile c 5)) $$ HS; iintro HS
  iapply (step_send m K c (ownSlot true 5) (t := 6) (r := 0) (n := 10) (n' := 11) rfl rfl (by decide) (dev_next c) rfl rfl (off_own c true 5) (off_own c true 5)) $$ HS; iintro HS
  iapply (step_send m K c (ownSlot false 5) (t := 6) (r := 0) (n := 11) (n' := 12) rfl rfl (by decide) (dev_prev c) rfl rfl (off_own c false 5) (off_own c false 5)) $$ HS; iintro HS
  iapply (step_tile m K c 6 (n := 6) (n' := 7) rfl rfl (s := 12) rfl rfl rfl rfl rfl rfl rfl (off_tile c 6)) $$ HS; iintro HS
  iapply (step_send m K c (ownSlot true 6) (t := 7) (r := 0) (n := 12) (n' := 13) rfl rfl (by decide) (dev_next c) rfl rfl (off_own c true 6) (off_own c true 6)) $$ HS; iintro HS
  iapply (step_send m K c (ownSlot false 6) (t := 7) (r := 0) (n := 13) (n' := 14) rfl rfl (by decide) (dev_prev c) rfl rfl (off_own c false 6) (off_own c false 6)) $$ HS; iintro HS
  iapply (step_tile m K c 7 (n := 7) (n' := 8) rfl rfl (s := 14) rfl rfl rfl rfl rfl rfl rfl (off_tile c 7)) $$ HS; iintro HS
  iapply (step_send m K c (ownSlot true 7) (t := 8) (r := 0) (n := 14) (n' := 15) rfl rfl (by decide) (dev_next c) rfl rfl (off_own c true 7) (off_own c true 7)) $$ HS; iintro HS
  iapply (step_send m K c (ownSlot false 7) (t := 8) (r := 0) (n := 15) (n' := 16) rfl rfl (by decide) (dev_prev c) rfl rfl (off_own c false 7) (off_own c false 7)) $$ HS; iintro HS
  iapply (step_recv m K c true 0 (n := 16) (r := 0) (r' := 1) rfl rfl rfl rfl) $$ HS; iintro HS
  iapply (step_send m K c (passOn true 0) (t := 8) (r := 1) (n := 16) (n' := 17) rfl rfl (by decide) (dev_next c) rfl rfl (off_next c 0) (off_next c 0)) $$ HS; iintro HS
  iapply (step_recv m K c false 0 (n := 17) (r := 1) (r' := 2) rfl rfl rfl rfl) $$ HS; iintro HS
  iapply (step_send m K c (passOn false 0) (t := 8) (r := 2) (n := 17) (n' := 18) rfl rfl (by decide) (dev_prev c) rfl rfl (off_prev c 0) (off_prev c 0)) $$ HS; iintro HS
  iapply (step_recv m K c true 1 (n := 18) (r := 2) (r' := 3) rfl rfl rfl rfl) $$ HS; iintro HS
  iapply (step_send m K c (passOn true 1) (t := 8) (r := 3) (n := 18) (n' := 19) rfl rfl (by decide) (dev_next c) rfl rfl (off_next c 1) (off_next c 1)) $$ HS; iintro HS
  iapply (step_recv m K c false 1 (n := 19) (r := 3) (r' := 4) rfl rfl rfl rfl) $$ HS; iintro HS
  iapply (step_send m K c (passOn false 1) (t := 8) (r := 4) (n := 19) (n' := 20) rfl rfl (by decide) (dev_prev c) rfl rfl (off_prev c 1) (off_prev c 1)) $$ HS; iintro HS
  iapply (step_recv m K c true 2 (n := 20) (r := 4) (r' := 5) rfl rfl rfl rfl) $$ HS; iintro HS
  iapply (step_send m K c (passOn true 2) (t := 8) (r := 5) (n := 20) (n' := 21) rfl rfl (by decide) (dev_next c) rfl rfl (off_next c 2) (off_next c 2)) $$ HS; iintro HS
  iapply (step_recv m K c false 2 (n := 21) (r := 5) (r' := 6) rfl rfl rfl rfl) $$ HS; iintro HS
  iapply (step_send m K c (passOn false 2) (t := 8) (r := 6) (n := 21) (n' := 22) rfl rfl (by decide) (dev_prev c) rfl rfl (off_prev c 2) (off_prev c 2)) $$ HS; iintro HS
  iapply (step_recv m K c true 3 (n := 22) (r := 6) (r' := 7) rfl rfl rfl rfl) $$ HS; iintro HS
  iapply (step_send m K c (passOn true 3) (t := 8) (r := 7) (n := 22) (n' := 23) rfl rfl (by decide) (dev_next c) rfl rfl (off_next c 3) (off_next c 3)) $$ HS; iintro HS
  iapply (step_recv m K c false 3 (n := 23) (r := 7) (r' := 8) rfl rfl rfl rfl) $$ HS; iintro HS
  iapply (step_send m K c (passOn false 3) (t := 8) (r := 8) (n := 23) (n' := 24) rfl rfl (by decide) (dev_prev c) rfl rfl (off_prev c 3) (off_prev c 3)) $$ HS; iintro HS
  iapply (step_keep m K c (true, 4) (r := 8) (r' := 9) rfl rfl (by decide) rfl) $$ HS; iintro HS
  iapply (step_keep m K c (false, 0) (r := 9) (r' := 10) rfl rfl (by decide) rfl) $$ HS; iintro HS
  iapply (step_keep m K c (true, 8) (r := 10) (r' := 11) rfl rfl (by decide) rfl) $$ HS; iintro HS
  iapply (step_keep m K c (false, 8) (r := 11) (r' := 12) rfl rfl (by decide) rfl) $$ HS; iintro HS
  iapply (step_keep m K c (true, 5) (r := 12) (r' := 13) rfl rfl (by decide) rfl) $$ HS; iintro HS
  iapply (step_keep m K c (false, 1) (r := 13) (r' := 14) rfl rfl (by decide) rfl) $$ HS; iintro HS
  iapply (step_keep m K c (true, 9) (r := 14) (r' := 15) rfl rfl (by decide) rfl) $$ HS; iintro HS
  iapply (step_keep m K c (false, 9) (r := 15) (r' := 16) rfl rfl (by decide) rfl) $$ HS; iintro HS
  iapply (step_keep m K c (true, 6) (r := 16) (r' := 17) rfl rfl (by decide) rfl) $$ HS; iintro HS
  iapply (step_keep m K c (false, 2) (r := 17) (r' := 18) rfl rfl (by decide) rfl) $$ HS; iintro HS
  iapply (step_keep m K c (true, 10) (r := 18) (r' := 19) rfl rfl (by decide) rfl) $$ HS; iintro HS
  iapply (step_keep m K c (false, 10) (r := 19) (r' := 20) rfl rfl (by decide) rfl) $$ HS; iintro HS
  iapply (step_keep m K c (true, 7) (r := 20) (r' := 21) rfl rfl (by decide) rfl) $$ HS; iintro HS
  iapply (step_keep m K c (false, 3) (r := 21) (r' := 22) rfl rfl (by decide) rfl) $$ HS; iintro HS
  iapply (step_keep m K c (true, 11) (r := 22) (r' := 23) rfl rfl (by decide) rfl) $$ HS; iintro HS
  iapply (step_keep m K c (false, 11) (r := 23) (r' := 24) rfl rfl (by decide) rfl) $$ HS; iintro HS
  iapply (step_done m K c (true, 0) (w := 0) (w' := 1) rfl rfl rfl) $$ HS; iintro HS
  iapply (step_done m K c (false, 0) (w := 1) (w' := 2) rfl rfl rfl) $$ HS; iintro HS
  iapply (step_done m K c (true, 1) (w := 2) (w' := 3) rfl rfl rfl) $$ HS; iintro HS
  iapply (step_done m K c (false, 1) (w := 3) (w' := 4) rfl rfl rfl) $$ HS; iintro HS
  iapply (step_done m K c (true, 2) (w := 4) (w' := 5) rfl rfl rfl) $$ HS; iintro HS
  iapply (step_done m K c (false, 2) (w := 5) (w' := 6) rfl rfl rfl) $$ HS; iintro HS
  iapply (step_done m K c (true, 3) (w := 6) (w' := 7) rfl rfl rfl) $$ HS; iintro HS
  iapply (step_done m K c (false, 3) (w := 7) (w' := 8) rfl rfl rfl) $$ HS; iintro HS
  iapply (step_done m K c (true, 4) (w := 8) (w' := 9) rfl rfl rfl) $$ HS; iintro HS
  iapply (step_done m K c (false, 4) (w := 9) (w' := 10) rfl rfl rfl) $$ HS; iintro HS
  iapply (step_done m K c (true, 5) (w := 10) (w' := 11) rfl rfl rfl) $$ HS; iintro HS
  iapply (step_done m K c (false, 5) (w := 11) (w' := 12) rfl rfl rfl) $$ HS; iintro HS
  iapply (step_done m K c (true, 6) (w := 12) (w' := 13) rfl rfl rfl) $$ HS; iintro HS
  iapply (step_done m K c (false, 6) (w := 13) (w' := 14) rfl rfl rfl) $$ HS; iintro HS
  iapply (step_done m K c (true, 7) (w := 14) (w' := 15) rfl rfl rfl) $$ HS; iintro HS
  iapply (step_done m K c (false, 7) (w := 15) (w' := 16) rfl rfl rfl) $$ HS; iintro HS
  iapply (step_done m K c (true, 8) (w := 16) (w' := 17) rfl rfl rfl) $$ HS; iintro HS
  iapply (step_done m K c (false, 8) (w := 17) (w' := 18) rfl rfl rfl) $$ HS; iintro HS
  iapply (step_done m K c (true, 9) (w := 18) (w' := 19) rfl rfl rfl) $$ HS; iintro HS
  iapply (step_done m K c (false, 9) (w := 19) (w' := 20) rfl rfl rfl) $$ HS; iintro HS
  iapply (step_done m K c (true, 10) (w := 20) (w' := 21) rfl rfl rfl) $$ HS; iintro HS
  iapply (step_done m K c (false, 10) (w := 21) (w' := 22) rfl rfl rfl) $$ HS; iintro HS
  iapply (step_done m K c (true, 11) (w := 22) (w' := 23) rfl rfl rfl) $$ HS; iintro HS
  iapply (step_done m K c (false, 11) (w := 23) (w' := 24) rfl rfl rfl) $$ HS; iintro HS
  rw [wp_ret]; imodintro
  iapply Hk
  iapply (end_steps m K c)
  isplitl [HS]; · iexact HS
  iexact Hz

end Cert.KernelIdeal.Gather
-- ==== Proof.KernelIdeal.Launch.lean ====
/-
# What a device's region starts from and ends with

The set-up of the semaphores gives every device the schedules' invariants, its own positions and the tokens of the duties
it pays. With the launch's credits and the device's buffers that is what its body starts from.
-/
module

public import proofs.«01_k».proof.Proof.KernelIdeal.Body
public import proofs.«01_k».proof.Proof.Gen.KernelIdeal.Points
public import Idealize.ShloMosaic.Lib.Pipeline.Launch
public import Idealize.ShloMosaic.Lib.Pipeline.Kit

@[expose] public section

set_option maxRecDepth 16384

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Conjunctions over the ports -/

omit [FloatOps F] in
theorem bigSep_port (Φ : Port → sProp 𝕄) : bigSep Finset.univ Φ = iprop(Φ none ∗ bigSep Finset.univ fun p : Bool × Slot => Φ (some p)) := by
  rw [bigSep_univ_at Φ none, show (Finset.univ.erase none : Finset Port) = Finset.univ.map Function.Embedding.some from by decide +kernel, bigSep_map]
  rfl

omit [FloatOps F] in
theorem bigSep_slots (Φ : Bool × Slot → sProp 𝕄) :
    bigSep Finset.univ Φ = iprop((bigSep Finset.univ fun i : Slot => Φ (true, i)) ∗ bigSep Finset.univ fun i : Slot => Φ (false, i)) := by
  rw [bigSep_univ_prod, bigSep_bool]

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact BI.bigSep_mono h)

/-! ## What a device starts from -/

/-- The tokens of the duties device `c` pays: a unit to each neighbour's barrier, its copies' own completions, and their
    arrivals at the neighbours. -/
def payToks : sProp 𝕄 :=
  iprop(dutyTok ER (barCell (peer false c)) 0 true ∗ dutyTok ER (barCell (peer true c)) 0 false
    ∗ (bigSep Finset.univ fun i : Slot => dutyTok ER (recvCell (peer i.1 c) i) 0 false)
    ∗ bigSep Finset.univ fun i : Slot => dutyTok ER (sendCell c i) 0 false)

/-- What only device `c` holds: its copies' semaphore, its positions, and those tokens. -/
def linear : sProp 𝕄 :=
  iprop(semVal (localCell c) 0 ∗ (bigSep Finset.univ fun k : Port => atPos ER (portCell (c, k)) 0 ∅ 0) ∗ payToks (F := F) c)

/-- What the set-up of the semaphores gives device `c`. -/
def given : sProp 𝕄 := iprop(∃ K, recs m K ∗ linear (F := F) c)

/-- What device `c`'s body starts from, besides the buffers of its region. -/
def start : sProp 𝕄 :=
  iprop(given m c ∗ cred (tallyAt (barCell c) () 2) ∗ (bigSep Finset.univ fun i : Slot => cred (tallyAt (recvCell c i) () credN))
    ∗ levAts lvls level
    ∗ (((c : Thread nD τ).loc main_arg0) ↦{fullShare} m ((c : Thread nD τ).loc main_arg0))
    ∗ (((c : Thread nD τ).loc main_v1) ↦{fullShare} m ((c : Thread nD τ).loc main_v1)))

/-- The region's two scratch buffers. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What holds between launch and body, -/
def Φ₀ : sProp 𝕄 := iprop(start m c ∗ scratch (F := F) c)
/-- and after the body. -/
def Φ₁ : sProp 𝕄 :=
  iprop((((c : Thread nD τ).loc main_arg0) ↦{fullShare} m ((c : Thread nD τ).loc main_arg0))
    ∗ (((c : Thread nD τ).loc main_v1) ↦{fullShare} gathered m)
    ∗ scratch (F := F) c ∗ semVal (localCell c) 0 ∗ semVal (barCell c) 0
    ∗ (bigSep Finset.univ fun i : Slot => semVal (sendCell c i) 0) ∗ bigSep Finset.univ fun i : Slot => semVal (recvCell c i) 0)

/-- The staging's account of the one region. -/
def dats (_ : Fin 1) (c : Dev nD) : Dat τ (Elt F) Unit ℕ UU ℕ cfg0 c where
  A w := m ((cfg0.win w).arr.view.loc (c : Thread nD τ))
  after w _ := match w with
    | ⟨0, _⟩ => factor m c
  Φ t := match t with
    | ⟨0, _⟩ => Φ₀ m c
    | ⟨_ + 1, _⟩ => Φ₁ m c
  q _ := fullShare
  owed t := match t with
    | ⟨0, _⟩ => owedBar₀ c
    | ⟨_ + 1, _⟩ => 0

/-! ## The body's obligation -/

omit [FloatOps F] in
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staged buffer at contents `X`. -/
def stagedAt (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

/-- What the set-up gives, the buffers and the staged copy of `B` are what the body wants. -/
theorem before_intro (K : Dev nD × Port → ℕ) (W : Waits sig Unit) :
    iprop(recs m K ∗ linear (F := F) c ∗ cred (tallyAt (barCell c) () 2) ∗ (bigSep Finset.univ fun i : Slot => cred (tallyAt (recvCell c i) () credN))
        ∗ levAts lvls level
        ∗ (((c : Thread nD τ).loc main_arg0) ↦{fullShare} m ((c : Thread nD τ).loc main_arg0))
        ∗ (((c : Thread nD τ).loc main_v1) ↦{fullShare} m ((c : Thread nD τ).loc main_v1))
        ∗ scratch (F := F) c ∗ owes (c : Thread nD τ) (owedBar₀ c) W
        ∗ (((c : Thread nD τ).loc cc0_stg0_0) ↦{fullShare} factor m c))
      ⊢ before m K c := by
  have htile : ∀ t : Fin 8, tileAt (F := F) c (tileNo c t) fullShare (m ((c : Thread nD τ).loc main_v1)) ⊢ blank (F := F) c t := fun t => by
    unfold blank
    show _ ⊢ (iprop(∃ f, tileAt (F := F) c (tileNo c t) fullShare f) : sProp 𝕄)
    iintro H; iexists (m ((c : Thread nD τ).loc main_v1)); iexact H
  have hwait : iprop((bigSep Finset.univ fun i : Slot => cred (tallyAt (recvCell c i) () credN)) ∗ bigSep Finset.univ fun i : Slot => atPos ER (recvCell c i) 0 ∅ 0)
      ⊢ bigSep Finset.univ (awaiting (F := F) c) := by
    rw [← bigSep_sep']; exact BI.bigSep_mono fun i _ => by unfold awaiting; exact BI.Entails.refl _
  have htok : iprop((bigSep Finset.univ fun i : Slot => dutyTok ER (sendCell c i) 0 false) ∗ bigSep Finset.univ fun i : Slot => dutyTok ER (recvCell (peer i.1 c) i) 0 false)
      ⊢ (bigSep Finset.univ fun i : Slot => iprop(dutyTok ER (sendCell c i) 0 false ∗ dutyTok ER (recvCell (peer i.1 c) i) 0 false) : sProp 𝕄) := by
    rw [← bigSep_sep']
  have hown : (bigSep Finset.univ fun t : Fin 8 => tileAt (F := F) c (tileNo c t) fullShare (m ((c : Thread nD τ).loc main_v1)))
      ⊢ bigSep Finset.univ (blank (F := F) c) := BI.bigSep_mono fun t _ => htile t
  have hgive : (bigSep Finset.univ fun i : Slot => tileAt c (gotTile c i) fullShare (m ((c : Thread nD τ).loc main_v1)))
      ⊢ iprop(barPay (F := F) (peer false c) true ∗ barPay (F := F) (peer true c) false) := by
    rw [bigSep_univ_prod, bigSep_bool]
    exact BI.sep_mono (give c true _) (give c false _)
  unfold before mine work linear payToks scratch
  rw [whole_tiles, bigSep_port, bigSep_slots]
  iintro ⟨#HC, ⟨Hloc, ⟨HaB, HaR, HaS⟩, HtB₁, HtB₂, HtR, HtS⟩, HcB, HcR, #HL, Harg, ⟨Hown, Hgot⟩, ⟨Hs₀, Hs₁⟩, HO, Hstg⟩
  ihave Hg := hgive $$ Hgot
  icases Hg with ⟨Hg₁, Hg₂⟩
  isplitr; · iexact HC
  isplitr; · iexact HL
  isplitl [HO]; · iexists W; iexact HO
  isplitl [Hg₁]; · iexact Hg₁
  isplitl [Hg₂]; · iexact Hg₂
  isplitl [HtB₁]; · iexact HtB₁
  isplitl [HtB₂]; · iexact HtB₂
  isplitl [HcB]; · iexact HcB
  isplitl [HaB]; · iexact HaB
  isplitl [Harg Hstg Hs₀ Hs₁ Hloc]
  · isplitl [Harg]; · iexact Harg
    isplitl [Hstg]; · iexact Hstg
    isplitl [Hs₀]; · iexact Hs₀
    isplitl [Hs₁]; · iexact Hs₁
    iexact Hloc
  isplitl [Hown]; · iapply hown; iexact Hown
  isplitl [HtS HtR]
  · iapply htok
    isplitl [HtS]; · iexact HtS
    iexact HtR
  isplitl [HaS]; · iexact HaS
  iapply hwait
  isplitl [HcR]; · iexact HcR
  iexact HaR

theorem dats_before (t : Fin cfg0.N) (d) : (dats (F := F) m 0 c).before (0 : Fin 1) t d = factor m c := by
  obtain rfl : t = t0_0 := fin_N0 t
  unfold Dat.before; rw [if_pos (fetch0_0 t0_0)]; rfl

/-- The body meets what the staging wants of it. -/
theorem body_obligation : BodyObligation (dats (F := F) m 0 c) (defs₀ (F := F)) 𝒱₀ () Set.univ := fun t => by
  obtain rfl : t = t0_0 := fin_N0 t
  rw [bigSep_W0, bigSep_W0]
  simp only [owns_whole]
  show iprop(Φ₀ m c ∗ (dats m 0 c).owesAt () t0_0.castSucc ∗ ∃ d, stagedAt c ((dats m 0 c).before (0 : Fin 1) t0_0 d))
    ⊢ wp frame (wpE (defs₀ (F := F)) 𝒱₀ c none) Set.univ
      (cc0_body (Memref.whole main_arg0) (Memref.isWhole_whole _) (Memref.whole cc0_stg0_0) (Memref.isWhole_whole _) (Memref.whole main_v1) (Memref.isWhole_whole _)
        (Memref.whole cc0_scratch0) (Memref.isWhole_whole _) (Memref.whole cc0_scratch1) (Memref.isWhole_whole _)
        cc0_scratch2 cc0_scratch3 cc0_scratch4 cc0_scratch5 cc0_scratch6)
      (fun _ => iprop(Φ₁ m c ∗ (dats m 0 c).owesAt () t0_0.succ ∗ stagedAt c (factor m c)))
  unfold stagedAt Dat.owesAt Pipeline.owesWithin
  iintro ⟨HΦ, ⟨%W, %hW, HO⟩, ⟨%d, %f, %hf, Hstg⟩⟩
  have hf' : f = factor m c := hf.trans (dats_before m c t0_0 d)
  subst hf'
  rw [show (dats m 0 c).owed t0_0.castSucc = owedBar₀ c from rfl, show (dats m 0 c).owed t0_0.succ = 0 from rfl]
  unfold Φ₀ start given
  icases HΦ with ⟨⟨⟨%K, HC, Hlin⟩, HcB, HcR, HL, Harg, Hv⟩, Hscr⟩
  iapply (sound_body m K c)
  isplitr []
  · iapply (before_intro m c K W)
    isplitl [HC]; · iexact HC
    isplitl [Hlin]; · iexact Hlin
    isplitl [HcB]; · iexact HcB
    isplitl [HcR]; · iexact HcR
    isplitl [HL]; · iexact HL
    isplitl [Harg]; · iexact Harg
    isplitl [Hv]; · iexact Hv
    isplitl [Hscr]; · iexact Hscr
    isplitl [HO]; · iexact HO
    iexact Hstg
  unfold finished work Φ₁ scratch
  iintro ⟨⟨%W', HO⟩, ⟨Harg, Hstg, Hs₀, Hs₁, Hloc⟩, Hv, HzB, HzS, HzR⟩
  isplitl [Harg Hs₀ Hs₁ Hloc Hv HzB HzS HzR]
  · isplitl [Harg]; · iexact Harg
    isplitl [Hv]; · iexact Hv
    isplitl [Hs₀ Hs₁]
    · isplitl [Hs₀]; · iexact Hs₀
      iexact Hs₁
    isplitl [Hloc]; · iexact Hloc
    isplitl [HzB]; · iexact HzB
    isplitl [HzS]; · iexact HzS
    iexact HzR
  isplitl [HO]
  · iexists W'
    isplitr; · ipureintro; exact fun _ _ => Or.inl trivial
    iexact HO
  iexists _; isplitr; · (ipureintro; rfl)
  iexact Hstg

end Cert.KernelIdeal.Gather
-- ==== Proof.KernelIdeal.Run.lean ====
/-
# The run of the whole program

Every device's semaphores are set up at once: each participating one gets its schedule, and the tokens of its duties go to
the devices that pay them. From there every device runs its body, and at the end every device's result buffer holds the
whole result, its arguments are what they were, and every semaphore counter is zero.
-/
module

public import proofs.«01_k».proof.Proof.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Quiescent

@[expose] public section

set_option maxRecDepth 16384

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Setting up the semaphores -/

/-- The semaphores of the kernel's own: that of the copies within a device, and those of the slots. -/
def ownSem : Port → SemLoc sig
  | none => .dma localS
  | some p => .dma (dmaS p.1 p.2)

theorem ownSemFacts : Pipeline.OwnSemFacts cfg0.spec ownSem where
  isScoped := by decide +kernel
  inj := by
    have : ∀ k k' : Port, ownSem k = ownSem k' → k = k' := by decide +kernel
    exact fun k k' h => this k k' h
  disj := by decide +kernel

/-- The duties of a device's semaphores: two of its barrier, one of each slot's semaphore. -/
abbrev Duty : Type := Bool ⊕ (Bool × Slot)

abbrev dutyOf (x : Dev nD × Duty) : GSem nD τ sig × ℕ × Bool :=
  match x.2 with
  | .inl d => (barCell x.1, 0, d)
  | .inr p => (portCell (x.1, some p), 0, false)

theorem dutyOf_inj : Function.Injective dutyOf := by
  rintro ⟨c, x⟩ ⟨c', x'⟩ h
  rcases x with d | p <;> rcases x' with d' | p'
  · have h1 : c = c' := congrArg (fun y : GSem nD τ sig × ℕ × Bool => y.1.1.1) h
    have h2 : d = d' := congrArg (fun y : GSem nD τ sig × ℕ × Bool => y.2.2) h
    rw [h1, h2]
  · have h1 := portCell_inj (a₁ := (c, none)) (a₂ := (c', some p')) (congrArg Prod.fst h)
    exact absurd (congrArg Prod.snd h1) (by simp)
  · have h1 := portCell_inj (a₁ := (c, some p)) (a₂ := (c', none)) (congrArg Prod.fst h)
    exact absurd (congrArg Prod.snd h1) (by simp)
  · have h1 := portCell_inj (a₁ := (c, some p)) (a₂ := (c', some p')) (congrArg Prod.fst h)
    have h2 : c = c' := congrArg Prod.fst h1
    have h3 : p = p' := Option.some.inj (congrArg Prod.snd h1)
    rw [h2, h3]

def allCells : Finset (GSem nD τ sig) := Finset.univ.map ⟨portCell, portCell_inj⟩
def allDuties : Finset (GSem nD τ sig × ℕ × Bool) := Finset.univ.map ⟨dutyOf, dutyOf_inj⟩

/-- The ghost state at launch. -/
def u₀ : UU :=
  (initOf (Pipeline.cells cfgs cellOf_inj) (Pipeline.launchToks cfgs cellOf_inj), (initOf allCells allDuties, 1))

/-- The tokens of the duties of device `c`'s own semaphores. -/
def ownToks : sProp 𝕄 :=
  iprop((bigSep Finset.univ fun d : Bool => dutyTok ER (barCell c) 0 d) ∗ bigSep Finset.univ fun p : Bool × Slot => dutyTok ER (portCell (c, some p)) 0 false)

/-- What the launch's ghost state gives device `c`. -/
def dealt : sProp 𝕄 :=
  iprop((bigSep Finset.univ fun k : Port => roundState ER (plan m) (portCell (c, k)) 0)
    ∗ (bigSep Finset.univ fun k : Port => iprop(atPos ER (portCell (c, k)) 0 ∅ 0 ∗ reached ER (portCell (c, k)) 0)) ∗ ownToks (F := F) c)

theorem deal : BI.own (ER (initOf allCells allDuties)) ⊢ (|==> bigSep Finset.univ (dealt m) : sProp 𝕄) := by
  have hX (Φ : GSem nD τ sig → sProp 𝕄) : bigSep allCells Φ = bigSep Finset.univ fun c : Dev nD => bigSep Finset.univ fun k : Port => Φ (portCell (c, k)) := by
    unfold allCells; rw [bigSep_map, bigSep_univ_prod]; rfl
  have hT : bigSep allDuties (fun x => (dutyTok ER x.1 x.2.1 x.2.2 : sProp 𝕄)) = bigSep Finset.univ fun c : Dev nD => ownToks (F := F) c := by
    unfold allDuties; rw [bigSep_map, bigSep_univ_prod]
    exact bigSep_congr fun c _ => by unfold ownToks; rw [BI.bigSep_univ_sum]; rfl
  iintro HX
  imod (Rounds.fund ER (plan m) allCells allDuties) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] in
theorem unscopedSems0_eq : (unscopedSems0 c : sProp 𝕄) = semVal (barCell c) 0 := by
  unfold unscopedSems0; rw [bigSep_eq_bigSepL_of_eq [SemLoc.reg barS] (by decide) (by decide)]; rfl

omit [FloatOps F] in
theorem ownSems0_eq : (Pipeline.ownSems0 (Ix := Unit) (Name := ℕ) (U := UU) (Lvl := ℕ) (Val := Elt F) (τ := τ) ownSem c : sProp 𝕄)
    = iprop(semVal (localCell c) 0 ∗ bigSep Finset.univ fun p : Bool × Slot => semVal (portCell (c, some p)) 0) := by
  unfold Pipeline.ownSems0; rw [bigSep_port]; rfl

/-- One device's semaphores get their invariants. -/
theorem alloc_one :
    iprop(Pipeline.ownSems0 (Ix := Unit) (Name := ℕ) (U := UU) (Lvl := ℕ) (Val := Elt F) (τ := τ) ownSem c ∗ unscopedSems0 c ∗ dealt m c)
      ⊢ |={Set.univ}=> iprop((bigSep Finset.univ fun k : Port => iprop(∃ κ : ℕ, cellInv ER (plan m) κ (portCell (c, k))))
          ∗ ((bigSep Finset.univ fun k : Port => atPos ER (portCell (c, k)) 0 ∅ 0) ∗ bigSep Finset.univ fun k : Port => reached ER (portCell (c, k)) 0)
          ∗ ownToks (F := F) c ∗ semVal (localCell c) 0) := by
  unfold dealt
  rw [ownSems0_eq, unscopedSems0_eq, bigSep_sep']
  iintro ⟨⟨Hloc, Hos⟩, Hbar, Hst, Hat, Htok⟩
  imod (show iprop((bigSep Finset.univ fun k : Port => semVal (portCell (c, k)) 0) ∗ bigSep Finset.univ fun k : Port => roundState ER (plan m) (portCell (c, k)) 0)
      ⊢ (|={Set.univ}=> bigSep Finset.univ fun k : Port => iprop(∃ κ : ℕ, cellInv ER (plan m) κ (portCell (c, k))) : sProp 𝕄) from by
        rw [← bigSep_sep']
        exact (BI.bigSep_mono fun k _ => (Rounds.body_intro ER (plan m) (portCell (c, k))).trans inv_alloc).trans (bigSep_fupd _ _)) $$ [Hos Hbar Hst] with Hinv
  · isplitl [Hos Hbar]
    · iapply (Entails.of_eq (bigSep_port (F := F) fun k => semVal (portCell (c, k)) 0).symm)
      isplitl [Hbar]; · iexact Hbar
      iexact Hos
    iexact Hst
  imodintro
  isplitl [Hinv]; · iexact Hinv
  isplitl [Hat]; · iexact Hat
  isplitl [Htok]; · iexact Htok
  iexact Hloc

omit [FloatOps F] in
/-- The duties' tokens go to the devices that pay them. -/
theorem toks_around : (bigSep Finset.univ fun c : Dev nD => ownToks (F := F) c) ⊢ bigSep Finset.univ fun c : Dev nD => payToks (F := F) c := by
  have hbar : ∀ d : Bool, (bigSep Finset.univ fun c : Dev nD => (dutyTok ER (barCell c) 0 d : sProp 𝕄))
      = bigSep Finset.univ fun c : Dev nD => dutyTok ER (barCell (peer (!d) c)) 0 d := fun d => bigSep_univ_equiv (turn (!d)) _
  have hrecv : (bigSep Finset.univ fun c : Dev nD => bigSep Finset.univ fun i : Slot => (dutyTok ER (recvCell c i) 0 false : sProp 𝕄))
      = bigSep Finset.univ fun c : Dev nD => bigSep Finset.univ fun i : Slot => dutyTok ER (recvCell (peer i.1 c) i) 0 false := by
    have hd : ∀ d : Bool, (bigSep Finset.univ fun c : Dev nD => bigSep Finset.univ fun k : Fin 12 => (dutyTok ER (recvCell c (d, k)) 0 false : sProp 𝕄))
        = bigSep Finset.univ fun c : Dev nD => bigSep Finset.univ fun k : Fin 12 => dutyTok ER (recvCell (peer d c) (d, k)) 0 false :=
      fun d => bigSep_univ_equiv (turn d) _
    simp only [bigSep_univ_prod, bigSep_bool, bigSep_sep', hd]
  unfold ownToks payToks
  simp only [bigSep_bool, bigSep_slots, bigSep_sep']
  iintro ⟨⟨H₁, H₂⟩, HR, HS⟩
  isplitl [H₁]; · iapply (Entails.of_eq (hbar true)); iexact H₁
  isplitl [H₂]; · iapply (Entails.of_eq (hbar false)); iexact H₂
  isplitl [HR]; · iapply (Entails.of_eq hrecv); iexact HR
  iexact HS

/-- All devices' semaphores are set up at once. -/
theorem regroup :
    (bigSep Finset.univ fun c : Dev nD => iprop((bigSep Finset.univ fun k : Port => iprop(∃ κ : ℕ, cellInv ER (plan m) κ (portCell (c, k))))
          ∗ ((bigSep Finset.univ fun k : Port => atPos ER (portCell (c, k)) 0 ∅ 0) ∗ bigSep Finset.univ fun k : Port => reached ER (portCell (c, k)) 0)
          ∗ ownToks (F := F) c ∗ semVal (localCell c) 0) : sProp 𝕄)
      ⊢ bigSep Finset.univ (given m) := by
  have hone : ∀ (K : Dev nD × Port → ℕ) (c : Dev nD), iprop(recs m K ∗ linear (F := F) c) ⊢ given m c := fun K c => by
    unfold given
    show _ ⊢ (iprop(∃ K, recs m K ∗ linear (F := F) c) : sProp 𝕄)
    iintro H; iexists K; iexact H
  rw [bigSep_sep', bigSep_sep', bigSep_sep', bigSep_sep', ← bigSep_univ_prod (fun cp : Dev nD × Port => iprop(∃ κ : ℕ, cellInv ER (plan m) κ (portCell cp))),
    ← bigSep_univ_prod (fun cp : Dev nD × Port => (reached ER (portCell cp) 0 : sProp 𝕄))]
  iintro ⟨HI, ⟨Hat, #HR⟩, Htok, Hloc⟩
  ihave HK := (BI.bigSep_exists_pi Finset.univ (fun (cp : Dev nD × Port) (κ : ℕ) => (cellInv ER (plan m) κ (portCell cp) : sProp 𝕄))) $$ HI
  icases HK with ⟨%K, #HI⟩
  ihave Htk := (toks_around (F := F)) $$ Htok
  iapply (bigSep_with (R := recs m K) fun c _ => hone K c)
  isplitr
  · unfold recs; isplitl; · iexact HI
    iexact HR
  · unfold linear
    rw [bigSep_sep', bigSep_sep']
    isplitl [Hloc]; · iexact Hloc
    isplitl [Hat]; · iexact Hat
    iexact Htk

theorem glob : (bigSep Finset.univ fun c => iprop(Pipeline.ownSems0 (Ix := Unit) (Name := ℕ) (U := UU) (Lvl := ℕ) (Val := Elt F) (τ := τ) ownSem c ∗ unscopedSems0 c ∗ dealt m c) : sProp 𝕄)
    ⊢ |={Set.univ}=> bigSep Finset.univ (given m) :=
  ((BI.bigSep_mono fun c _ => alloc_one m c).trans (bigSep_fupd _ _)).trans (BI.fupd_mono (regroup m))

/-! ## The launch's credits -/

theorem bar_iff {a b : Dev nD} : barCell a = barCell b ↔ a = b :=
  ⟨fun h => congrArg (fun g : GSem nD τ sig => g.1.1) h, fun h => h ▸ rfl⟩
theorem recv_inj {a b : Dev nD} {i j : Slot} (h : recvCell a i = recvCell b j) : a = b ∧ i = j := by
  have h1 := portCell_inj (a₁ := (a, some (true, i))) (a₂ := (b, some (true, j))) h
  exact ⟨congrArg Prod.fst h1, (Prod.ext_iff.mp (Option.some.inj (congrArg Prod.snd h1))).2⟩
theorem recv_ne_bar {a b : Dev nD} {i : Slot} (h : recvCell a i = barCell b) : False :=
  absurd (congrArg Prod.snd (portCell_inj (a₁ := (a, some (true, i))) (a₂ := (b, none)) h)) (by simp)

theorem owed_bar_zero (d : Dev nD) (n : ℕ) : owed d n (barCell c) () = 0 := by
  by_contra h
  obtain ⟨i, -, hi⟩ := owed_pos (Nat.pos_of_ne_zero h)
  exact recv_ne_bar hi.symm

theorem owed_recv (d : Dev nD) (i : Slot) : owed d 0 (recvCell c i) () = if d = peer (!i.1) c then credN else 0 := by
  unfold owed
  rw [toStart_zero, Finset.sum_apply, Finsupp.finset_sum_apply, Finset.sum_eq_single i, tallyAt_apply]
  · by_cases h : d = peer (!i.1) c
    · rw [if_pos h, if_pos]; rw [h, peer_back]; exact ⟨rfl, rfl⟩
    · rw [if_neg h, if_neg]
      rintro ⟨h1, -⟩
      exact h (by rw [(recv_inj h1).1, peer_forth])
  · intro j _ hj
    rw [tallyAt_apply, if_neg]
    rintro ⟨h1, -⟩
    exact hj (recv_inj h1).2.symm
  · exact fun h => absurd (Finset.mem_univ _) h

/-- A unit at the neighbour's barrier, seen from a device. -/
theorem unit_bar (d : Dev nD) (b : Bool) : (tallyAt (barCell (peer b d)) () 1 : CellTallies nD τ sig Unit) (barCell c) () = if d = peer (!b) c then 1 else 0 := by
  rw [tallyAt_apply]
  by_cases h : d = peer (!b) c
  · rw [if_pos h, if_pos]; rw [h, peer_back]; exact ⟨rfl, rfl⟩
  · rw [if_neg h, if_neg]
    rintro ⟨h1, -⟩
    exact h (by rw [bar_iff.mp h1, peer_forth])

theorem launch_bar : tallyOn (barCell c) (launchCredit (Pipeline.owing owedBar₀) 0 (barCell c)) = (tallyAt (barCell c) () 2 : CellTallies nD τ sig Unit) := by
  have hd : ∀ d : Dev nD, owedBar₀ d (barCell c) () = (if d = peer false c then 1 else 0) + (if d = peer true c then 1 else 0) := fun d => by
    unfold owedBar₀ owedBar₁
    rw [Pi.add_apply, Finsupp.add_apply, Pi.add_apply, Finsupp.add_apply, owed_bar_zero, unit_bar, unit_bar, Nat.zero_add]; rfl
  unfold tallyAt; refine congrArg _ (Finsupp.ext fun u => ?_); cases u
  rw [Pipeline.launchCredit_owing, Finsupp.single_eq_same, Finset.sum_congr rfl fun d _ => hd d, Finset.sum_add_distrib,
    Finset.sum_ite_eq' Finset.univ (peer false c) fun _ => 1, Finset.sum_ite_eq' Finset.univ (peer true c) fun _ => 1, if_pos (Finset.mem_univ _), if_pos (Finset.mem_univ _)]

theorem launch_recv (i : Slot) :
    tallyOn (recvCell c i) (launchCredit (Pipeline.owing owedBar₀) 0 (recvCell c i)) = (tallyAt (recvCell c i) () credN : CellTallies nD τ sig Unit) := by
  have hd : ∀ d : Dev nD, owedBar₀ d (recvCell c i) () = if d = peer (!i.1) c then credN else 0 := fun d => by
    unfold owedBar₀ owedBar₁
    rw [Pi.add_apply, Finsupp.add_apply, Pi.add_apply, Finsupp.add_apply, owed_recv, tallyAt_ne_cell (fun h => recv_ne_bar h),
      tallyAt_ne_cell (fun h => recv_ne_bar h), Finsupp.zero_apply, Nat.add_zero, Nat.add_zero]
  unfold tallyAt; refine congrArg _ (Finsupp.ext fun u => ?_); cases u
  rw [Pipeline.launchCredit_owing, Finsupp.single_eq_same, Finset.sum_congr rfl fun d _ => hd d, Finset.sum_ite_eq' Finset.univ (peer (!i.1) c) fun _ => credN,
    if_pos (Finset.mem_univ _)]

def recvSem : Slot ↪ SemLoc sig := ⟨fun i => .dma (dmaS true i), fun i j h => (recv_inj (a := 0) (b := 0) (congrArg (Prod.mk _) h)).2⟩

omit [FloatOps F] in
/-- The launch credits each device with what its neighbours owe it. -/
theorem creds : (Pipeline.launchCred owedBar₀ c : sProp 𝕄)
    ⊢ iprop(cred (tallyAt (barCell c) () 2) ∗ bigSep Finset.univ fun i : Slot => cred (tallyAt (recvCell c i) () credN)) := by
  unfold Pipeline.launchCred
  rw [bigSep_univ_at _ (SemLoc.reg barS), launch_bar]
  refine sep_mono_right ?_
  have hsub : Finset.univ.map recvSem ⊆ Finset.univ.erase (SemLoc.reg barS) := fun x hx => by
    obtain ⟨i, -, rfl⟩ := Finset.mem_map.mp hx
    exact Finset.mem_erase.mpr ⟨fun h => recv_ne_bar (a := 0) (b := 0) (i := i) (congrArg (Prod.mk _) h), Finset.mem_univ _⟩
  refine (BI.bigSep_subset hsub).trans ?_
  rw [bigSep_map]
  exact Entails.of_eq (bigSep_congr fun i _ => congrArg cred (launch_recv c i))

/-! ## The run -/

theorem owedBar_pos {d : Dev nD} {g : GSem nD τ sig} {u : Unit} (h : 0 < owedBar₀ d g u) : ∃ b, g = barCell b ∨ ∃ i, g = recvCell b i := by
  unfold owedBar₀ owedBar₁ at h
  rw [Pi.add_apply, Finsupp.add_apply, Pi.add_apply, Finsupp.add_apply, tallyAt_apply, tallyAt_apply] at h
  by_cases h₁ : g = barCell (peer true d)
  · exact ⟨_, Or.inl h₁⟩
  by_cases h₂ : g = barCell (peer false d)
  · exact ⟨_, Or.inl h₂⟩
  rw [if_neg fun h' => h₁ h'.1, if_neg fun h' => h₂ h'.1, Nat.add_zero] at h
  obtain ⟨i, -, hi⟩ := owed_pos h
  exact ⟨_, Or.inr ⟨i, hi⟩⟩

omit [FloatOps F] in
/-- The staging's wait is below everything owed. -/
theorem mayWait_stage (q : DmaSem sig) (hq : semLevel (.dma q) = 0) (O : CellTallies nD τ sig Unit) (hO : O = owedBar₀ c ∨ O = 0) :
    (levAts lvls level : sProp 𝕄) ⊢ MayWait (c : Thread nD τ) (.dma q) () O := by
  rcases hO with rfl | rfl
  · refine MayOwe.of_cut (L := lvls) (lev := level) 0
      (fun p hp => by rw [Finset.mem_singleton.mp hp, lvls_tc]; exact Finset.mem_singleton_self _)
      (fun g u hg => by
        obtain ⟨b, rfl | ⟨i, rfl⟩⟩ := owedBar_pos hg <;> (rw [lvls_tc]; exact Finset.mem_singleton_self _))
      (fun p hp => by rw [Finset.mem_singleton.mp hp]; exact hq.le)
      (fun g u hg => by
        obtain ⟨b, rfl | ⟨i, rfl⟩⟩ := owedBar_pos hg
        · exact Nat.one_pos
        · rw [level_recv]; split <;> decide)
  · rw [MayWait_zero]; iintro -; iempintro

theorem waits : (levAts lvls level : sProp 𝕄) ⊢ Pipeline.cellsWaits cfgs (dats m) () 0 c :=
  Pipeline.cellsWaits_intro cfgs (dats m) () 0 c fun w s t =>
    mayWait_stage c _ (by revert w s; decide +kernel) _ (by
      rcases t with ⟨_ | _, ht⟩
      · exact Or.inl rfl
      · exact Or.inr rfl)

theorem start_intro :
    iprop(Pipeline.unscopedRestP Pipeline.Prefetch.none cfg0.spec c (fun b => m ((c : Thread nD τ).loc b)) ∗ levAts lvls level
        ∗ Pipeline.launchCred owedBar₀ c ∗ prngReg c (ρ c) ∗ given m c)
      ⊢ |={Set.univ}=> iprop(start m c ∗ emp) := by
  rw [Pipeline.unscopedRestP_none, unscopedRest0_eq]
  iintro ⟨⟨Harg, Hv⟩, HL, Hcr, -, HG⟩
  ihave Hc := (creds (F := F) c) $$ Hcr
  icases Hc with ⟨HcB, HcR⟩
  imodintro
  unfold start
  isplitl
  · isplitl [HG]; · iexact HG
    isplitl [HcB]; · iexact HcB
    isplitl [HcR]; · iexact HcR
    isplitl [HL]; · iexact HL
    isplitl [Harg]; · iexact Harg
    iexact Hv
  · iempintro

theorem enter :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What is read off at the end: the barrier's counter, the device's rows of `A`, and the result. -/
def atEnd : sProp 𝕄 :=
  iprop(unscopedSems0 c ∗ (((c : Thread nD τ).loc main_arg0) ↦{fullShare} m ((c : Thread nD τ).loc main_arg0))
    ∗ (((c : Thread nD τ).loc main_v1) ↦{fullShare} gathered m))

theorem leave :
    (dats m 0 c).Φ (Fin.last cfg0.N) ⊢ iprop(atEnd m c ∗ Pipeline.ownSems0 ownSem c ∗ Pipeline.scopedRest cfg0.spec c) := by
  unfold atEnd
  rw [show (dats m 0 c).Φ (Fin.last cfg0.N) = Φ₁ m c from rfl, scopedRest0_eq, ownSems0_eq, unscopedSems0_eq, bigSep_slots]
  unfold Φ₁ scratch
  iintro ⟨Harg, Hv, Hs, Hloc, HzB, HzS, HzR⟩
  isplitl [Harg Hv HzB]
  · isplitl [HzB]; · iexact HzB
    isplitl [Harg]; · iexact Harg
    iexact Hv
  isplitl [Hloc HzS HzR]
  · isplitl [Hloc]; · iexact Hloc
    isplitl [HzR]; · iexact HzR
    iexact HzS
  iexact Hs

/-- On every device the result buffer ends holding the whole result, and the two arguments what they held. -/
def Ends (s : MemSt nD τ sig (Elt F)) : Prop := ∀ c : Dev nD,
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = gathered m

set_option maxHeartbeats 1000000 in
/-- From any memory with all counters at zero, every fair execution of the program on the four devices terminates without
    fault, every device's result buffer then holds the whole result, its arguments are unchanged, and every semaphore
    counter is zero. -/
theorem run_main : θ_run defs (onTc (τ := τ) (main (F := F))) ⟨m, fun _ => 0, ρ⟩ (fun r => Ends m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0)
    (hshare := fun c w => by unfold Dat.share; split <;> rfl)
    (hdistinct := winFacts0.arr_inj)
    (O₀ := owedBar₀) (howed₀ := fun _ => rfl) (howedN := fun _ => rfl)
    (L := lvls) (lv := level) (hL := lvls_other) (hwaits := waits m)
    (G := dealt m) (G' := given m) (u₀ := u₀)
    (hu₀ := by
      unfold u₀
      iintro Hu
      ihave H := (ownU_pair _ _) $$ Hu
      icases H with ⟨HP, HX⟩
      ihave H' := (own_pair_emb embR _ _) $$ HX
      icases H' with ⟨HX, -⟩
      imod (deal m) $$ HX with HG
      imodintro
      isplitl [HP] <;> iassumption)
    (hglob := glob m)
    (hA := fun _ _ => rfl) (hpf := fun _ k => k.elim0)
    (X := start m) (Y := atEnd m) (Z := fun _ => iprop(emp))
    (hX := start_intro m ρ) (hin := enter m) (hout := leave m)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_v1) = gathered m)
    (hY := fun c s' => by
      unfold atEnd
      iintro ⟨⟨Hu, Harg, Hv⟩, -, HSI⟩
      icombine HSI Harg gives %ha
      icombine HSI Hv gives %hv
      imod (Pipeline.unscopedSems0_read (X := unscopedSems0 c) (c := c) fupd_intro s') $$ [Hu HSI] with ⟨%hz, HSI⟩
      · isplitl [Hu] <;> iassumption
      imodintro
      isplitr
      · ipureintro
        exact ⟨hz, Buf.eq_of_forall_mem_univ ha, Buf.eq_of_forall_mem_univ hv⟩
      iexact HSI)
    (hQ := fun s h hs => ⟨fun c => ⟨(h c).2.2.2.1, ((h c).1 (0 : Fin 1)).trans ((dats m 0 c).arrAt_in (0 : Fin 1) rfl _), (h c).2.2.2.2⟩,
      sem_eq_zero hs fun c => (h c).2.2.1⟩)

end Cert.KernelIdeal.Gather
-- ==== Proof.KernelIdeal.Value.lean ====
/-
# What the gathered result is, over the extended reals

At the ideal instance a tile of the result is a block of one matrix product: the sum over the 2048 contracted columns of
a row of `A` times a column of `B`. When the devices hold the four row blocks of one `A` and copies of one `B`, element
`(r, l)` of the gathered result is row `r` of `A` times column `l` of `B`, which is what the reference's product is.
-/
module

public import proofs.«01_k».proof.Proof.KernelIdeal.Tiles
public import proofs.«01_k».proof.Proof.Gen.ReferenceIdeal.Run
public import Idealize.ShloMosaic.Lib.Layout
public import Idealize.ShloMosaic.Lib.Pointwise

@[expose] public section

set_option maxRecDepth 16384

noncomputable section

namespace Cert.KernelIdeal.Gather

open Cert.KernelIdeal Cert.KernelIdeal.Gen
open Idealize.ShloMosaic Idealize.ShloMosaic.TcCoe
open Idealize.SL.Sem

/-! ## The two products, element by element -/

/-- An element of a tile's values: a row of the tile's rows times a column of the second factor. -/
theorem pay_apply (a : Vec Ideal S512x2048 .f32) (b : Vec Ideal S2048x4096 .f32) (x : S512x4096.Idx) :
    k0_pay1 (F := Ideal) a b x = ∑ k : Fin 2048, a (ix2 (x 0) k) * b (ix2 k (x 1)) := by
  unfold k0_pay1
  simp only [pointwise]
  simp

/-- An element of the reference's product: a row of the first factor times a column of the second. -/
theorem product_apply (A : FVec Ideal Cert.ReferenceIdeal.S16384x2048 .f32) (B : FVec Ideal Cert.ReferenceIdeal.S2048x4096 .f32)
    (i : Cert.ReferenceIdeal.S16384x4096.Idx) :
    Host.dotGeneral (F := Ideal) Cert.ReferenceIdeal.dot_S16384x2048_S2048x4096_S16384x4096_1_0_0_1_n_n none A B i
      = ∑ k : Fin 2048, A (ix2 (i 0) k) * B (ix2 k (i 1)) := by
  simp only [pointwise]
  exact zero_add _

/-! ## Where a tile's rows and columns come from -/

variable (m : (ℓ : Loc nD τ sig) → Buf (Elt Ideal) ℓ)
variable (A : FVec Ideal Cert.ReferenceIdeal.S16384x2048 .f32) (B : FVec Ideal Cert.ReferenceIdeal.S2048x4096 .f32)

/-- The rows tile `q` is computed from are rows `512 q` onwards of the whole `A`. -/
theorem rowsOf_apply (q : Fin 32) (hA : m (((origin q : Dev nD) : Thread nD τ).loc main_arg0)
      = Layout.block ⟨2, ![4096, 2048]⟩ ⟨2, ![16384, 2048]⟩ 0 4 (origin q) A)
    (r : Fin 512) (k : Fin 2048) (i : Fin 16384) (hi : i.val = 512 * q.val + r.val) :
    rowsOf m (origin q) (part q) (ix2 r k) = A (ix2 i k) := by
  unfold rowsOf
  rw [hA]
  refine congrArg A (funext (Fin.forall_fin_two.mpr ⟨Fin.ext ?_, Fin.ext ?_⟩))
  · show q.val / 8 * 4096 + (512 * (q.val % 8) + 1 * r.val) = i.val
    omega
  · show 0 + 1 * k.val = k.val
    omega

/-- The second factor of every tile is the whole `B`. -/
theorem factor_apply (o : Dev nD) (hB : m ((o : Thread nD τ).loc main_arg1) = B) (k : Fin 2048) (l : Fin 4096) :
    factor m o (ix2 k l) = B (ix2 k l) := by
  unfold factor
  rw [hB]
  refine congrArg B (funext (Fin.forall_fin_two.mpr ⟨Fin.ext ?_, Fin.ext ?_⟩))
  · show win0_0.index t0_0 0 * 2048 + 1 * k.val = k.val
    rw [show win0_0.index t0_0 0 = 0 by decide +kernel]; omega
  · show win0_0.index t0_0 1 * 4096 + 1 * l.val = l.val
    rw [show win0_0.index t0_0 1 = 0 by decide +kernel]; omega

/-! ## The result -/

/-- When device `c` holds row block `c` of `A` and every device holds `B`, the gathered result is their product. -/
theorem gathered_eq (hA : ∀ c : Dev nD, m ((c : Thread nD τ).loc main_arg0)
      = Layout.block ⟨2, ![4096, 2048]⟩ ⟨2, ![16384, 2048]⟩ 0 4 c A)
    (hB : ∀ c : Dev nD, m ((c : Thread nD τ).loc main_arg1) = B) :
    gathered m = Host.dotGeneral (F := Ideal) Cert.ReferenceIdeal.dot_S16384x2048_S2048x4096_S16384x4096_1_0_0_1_n_n none A B := by
  funext i
  obtain ⟨x, -, hx⟩ := Finset.mem_map.mp ((mem_tileSet (tileOf i) i).mpr rfl)
  have h0 : (i (0 : Fin 2)).val = 512 * (tileOf i).val + (x 0).val := by
    have h : 512 * (tileOf i).val + 1 * (x 0).val = (i (0 : Fin 2)).val := congrArg (fun j => (j (0 : Fin 2)).val) hx
    omega
  have h1 : (x 1 : Fin 4096) = i (1 : Fin 2) := by
    have h : 0 + 1 * (x 1).val = (i (1 : Fin 2)).val := congrArg (fun j => (j (1 : Fin 2)).val) hx
    exact Fin.ext (by omega)
  have he : gathered m i = tileVal m (tileOf i) x := by
    rw [← read_gathered m (tileOf i)]
    exact (congrArg (gathered m) hx).symm
  refine he.trans (((pay_apply _ _ x).trans ?_).trans (product_apply A B i).symm)
  refine Finset.sum_congr rfl fun k _ => ?_
  rw [rowsOf_apply m A (tileOf i) (hA _) (x 0) k (i (0 : Fin 2)) h0]
  refine congrArg (A (ix2 (i 0) k) * ·) ((factor_apply m B _ (hB _) k (x 1)).trans ?_)
  rw [h1]

end Cert.KernelIdeal.Gather
-- ==== Proof.lean ====
/-
# The claims

The kernel ends with its arguments unchanged and every semaphore counter at zero, at its own words and over the extended
reals, and so does the reference. Over the extended reals every device ends with the reference's product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Run
public import proofs.«01_k».proof.Proof.KernelIdeal.Value
public import proofs.«01_k».proof.Proof.Kernel.Run
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel, at its own words, ends with its arguments unchanged and every counter at zero. -/
theorem kernel_quiescent : quiescent_Kernel (hKernel := Cert.Kernel.Gen.facts) := fun m g _ =>
  (θ_run _ _ _).mono (fun _ h => ⟨fun c => ⟨(h.1 c).1, (h.1 c).2.1⟩, h.2⟩) (Cert.Kernel.Gather.run_main m g)

/-- So does the kernel over the extended reals, -/
theorem kernelIdeal_quiescent : quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Gather.run_main m g)

/-- and the reference, which has no counter. -/
theorem referenceIdeal_quiescent : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Over the extended reals every device ends with the reference's product of the whole arrays. -/
theorem kernelIdeal_algebraic : algebraic_KernelIdeal_ReferenceIdeal (hKernelIdeal := Cert.KernelIdeal.Gen.facts)
    (hReferenceIdeal := Cert.ReferenceIdeal.Gen.facts) := fun m g m' g' _ h =>
  ⟨_, (θ_run _ _ _).mono (fun _ hr c => ⟨(hr.1 c).2.2.trans
        (Cert.KernelIdeal.Gather.gathered_eq m _ _ (fun c => (h c).1) (fun c => (h c).2)), (hr.1 c).1, (hr.1 c).2.1⟩)
      (Cert.KernelIdeal.Gather.run_main m g),
    (θ_run _ _ _).mono (fun _ hr => hr 0) (Cert.ReferenceIdeal.Value.run m' g')⟩

/-- Every claim of the certificate. -/
theorem claim : Cert.Claim := ⟨Cert.Kernel.Gen.facts, Cert.KernelIdeal.Gen.facts, Cert.ReferenceIdeal.Gen.facts,
  kernel_quiescent, kernelIdeal_quiescent, referenceIdeal_quiescent, trivial, kernelIdeal_algebraic⟩

end Cert.Proof

end
